-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_RefPostIdeal (m : (ℓ : Loc Cert.RefPostIdeal.nD Cert.RefPostIdeal.τ Cert.RefPostIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_RefConvIdeal (m : (ℓ : Loc Cert.RefConvIdeal.nD Cert.RefConvIdeal.τ Cert.RefConvIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_RefCmpIdeal (m : (ℓ : Loc Cert.RefCmpIdeal.nD Cert.RefCmpIdeal.τ Cert.RefCmpIdeal.sig) → Buf (Elt Ideal) ℓ) : Prop :=
  True

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ r.2.sem = fun _ => 0)

def quiescent_RefPostIdeal [hRefPostIdeal : Cert.RefPostIdeal.Facts] : Prop :=
  ∀ (m : (ℓ : Loc Cert.RefPostIdeal.nD Cert.RefPostIdeal.τ Cert.RefPostIdeal.sig) → Buf (Elt Ideal) ℓ) (g : Dev Cert.RefPostIdeal.nD → PrngReg), Pre_RefPostIdeal m →
    θ_run (Cert.RefPostIdeal.defs (F := Ideal)) (onTc (τ := Cert.RefPostIdeal.τ) (Cert.RefPostIdeal.main (F := Ideal))) ⟨m, fun _ => 0, g⟩ (fun r => (∀ c : Dev Cert.RefPostIdeal.nD,
      r.2.mem ((c.tc : Thread Cert.RefPostIdeal.nD Cert.RefPostIdeal.τ).loc Cert.RefPostIdeal.main_arg0) = m ((c.tc : Thread Cert.RefPostIdeal.nD Cert.RefPostIdeal.τ).loc Cert.RefPostIdeal.main_arg0)
      ∧ r.2.mem ((c.tc : Thread Cert.RefPostIdeal.nD Cert.RefPostIdeal.τ).loc Cert.RefPostIdeal.main_arg1) = m ((c.tc : Thread Cert.RefPostIdeal.nD Cert.RefPostIdeal.τ).loc Cert.RefPostIdeal.main_arg1)
      ∧ r.2.mem ((c.tc : Thread Cert.RefPostIdeal.nD Cert.RefPostIdeal.τ).loc Cert.RefPostIdeal.main_arg2) = m ((c.tc : Thread Cert.RefPostIdeal.nD Cert.RefPostIdeal.τ).loc Cert.RefPostIdeal.main_arg2)
      ∧ r.2.mem ((c.tc : Thread Cert.RefPostIdeal.nD Cert.RefPostIdeal.τ).loc Cert.RefPostIdeal.main_arg3) = m ((c.tc : Thread Cert.RefPostIdeal.nD Cert.RefPostIdeal.τ).loc Cert.RefPostIdeal.main_arg3)
      ∧ r.2.mem ((c.tc : Thread Cert.RefPostIdeal.nD Cert.RefPostIdeal.τ).loc Cert.RefPostIdeal.main_arg4) = m ((c.tc : Thread Cert.RefPostIdeal.nD Cert.RefPostIdeal.τ).loc Cert.RefPostIdeal.main_arg4)
      ∧ r.2.mem ((c.tc : Thread Cert.RefPostIdeal.nD Cert.RefPostIdeal.τ).loc Cert.RefPostIdeal.main_arg5) = m ((c.tc : Thread Cert.RefPostIdeal.nD Cert.RefPostIdeal.τ).loc Cert.RefPostIdeal.main_arg5)
      ∧ r.2.mem ((c.tc : Thread Cert.RefPostIdeal.nD Cert.RefPostIdeal.τ).loc Cert.RefPostIdeal.main_arg6) = m ((c.tc : Thread Cert.RefPostIdeal.nD Cert.RefPostIdeal.τ).loc Cert.RefPostIdeal.main_arg6)
      ∧ r.2.mem ((c.tc : Thread Cert.RefPostIdeal.nD Cert.RefPostIdeal.τ).loc Cert.RefPostIdeal.main_arg7) = m ((c.tc : Thread Cert.RefPostIdeal.nD Cert.RefPostIdeal.τ).loc Cert.RefPostIdeal.main_arg7)
      ∧ r.2.mem ((c.tc : Thread Cert.RefPostIdeal.nD Cert.RefPostIdeal.τ).loc Cert.RefPostIdeal.main_arg8) = m ((c.tc : Thread Cert.RefPostIdeal.nD Cert.RefPostIdeal.τ).loc Cert.RefPostIdeal.main_arg8)
      ∧ r.2.mem ((c.tc : Thread Cert.RefPostIdeal.nD Cert.RefPostIdeal.τ).loc Cert.RefPostIdeal.main_arg9) = m ((c.tc : Thread Cert.RefPostIdeal.nD Cert.RefPostIdeal.τ).loc Cert.RefPostIdeal.main_arg9)
      ∧ r.2.mem ((c.tc : Thread Cert.RefPostIdeal.nD Cert.RefPostIdeal.τ).loc Cert.RefPostIdeal.main_arg10) = m ((c.tc : Thread Cert.RefPostIdeal.nD Cert.RefPostIdeal.τ).loc Cert.RefPostIdeal.main_arg10)
      ∧ r.2.mem ((c.tc : Thread Cert.RefPostIdeal.nD Cert.RefPostIdeal.τ).loc Cert.RefPostIdeal.main_arg11) = m ((c.tc : Thread Cert.RefPostIdeal.nD Cert.RefPostIdeal.τ).loc Cert.RefPostIdeal.main_arg11)
      ∧ r.2.mem ((c.tc : Thread Cert.RefPostIdeal.nD Cert.RefPostIdeal.τ).loc Cert.RefPostIdeal.main_arg12) = m ((c.tc : Thread Cert.RefPostIdeal.nD Cert.RefPostIdeal.τ).loc Cert.RefPostIdeal.main_arg12)
      ∧ r.2.mem ((c.tc : Thread Cert.RefPostIdeal.nD Cert.RefPostIdeal.τ).loc Cert.RefPostIdeal.main_arg13) = m ((c.tc : Thread Cert.RefPostIdeal.nD Cert.RefPostIdeal.τ).loc Cert.RefPostIdeal.main_arg13))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_RefConvIdeal [hRefConvIdeal : Cert.RefConvIdeal.Facts] : Prop :=
  ∀ (m : (ℓ : Loc Cert.RefConvIdeal.nD Cert.RefConvIdeal.τ Cert.RefConvIdeal.sig) → Buf (Elt Ideal) ℓ) (g : Dev Cert.RefConvIdeal.nD → PrngReg), Pre_RefConvIdeal m →
    θ_run (Cert.RefConvIdeal.defs (F := Ideal)) (onTc (τ := Cert.RefConvIdeal.τ) (Cert.RefConvIdeal.main (F := Ideal))) ⟨m, fun _ => 0, g⟩ (fun r => (∀ c : Dev Cert.RefConvIdeal.nD,
      r.2.mem ((c.tc : Thread Cert.RefConvIdeal.nD Cert.RefConvIdeal.τ).loc Cert.RefConvIdeal.main_arg0) = m ((c.tc : Thread Cert.RefConvIdeal.nD Cert.RefConvIdeal.τ).loc Cert.RefConvIdeal.main_arg0)
      ∧ r.2.mem ((c.tc : Thread Cert.RefConvIdeal.nD Cert.RefConvIdeal.τ).loc Cert.RefConvIdeal.main_arg1) = m ((c.tc : Thread Cert.RefConvIdeal.nD Cert.RefConvIdeal.τ).loc Cert.RefConvIdeal.main_arg1)
      ∧ r.2.mem ((c.tc : Thread Cert.RefConvIdeal.nD Cert.RefConvIdeal.τ).loc Cert.RefConvIdeal.main_arg2) = m ((c.tc : Thread Cert.RefConvIdeal.nD Cert.RefConvIdeal.τ).loc Cert.RefConvIdeal.main_arg2)
      ∧ r.2.mem ((c.tc : Thread Cert.RefConvIdeal.nD Cert.RefConvIdeal.τ).loc Cert.RefConvIdeal.main_arg3) = m ((c.tc : Thread Cert.RefConvIdeal.nD Cert.RefConvIdeal.τ).loc Cert.RefConvIdeal.main_arg3)
      ∧ r.2.mem ((c.tc : Thread Cert.RefConvIdeal.nD Cert.RefConvIdeal.τ).loc Cert.RefConvIdeal.main_arg4) = m ((c.tc : Thread Cert.RefConvIdeal.nD Cert.RefConvIdeal.τ).loc Cert.RefConvIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2)
      ∧ r.2.mem ((c.tc : Thread Cert.RefProjIdeal.nD Cert.RefProjIdeal.τ).loc Cert.RefProjIdeal.main_arg3) = m ((c.tc : Thread Cert.RefProjIdeal.nD Cert.RefProjIdeal.τ).loc Cert.RefProjIdeal.main_arg3))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6)
      ∧ r.2.mem ((c.tc : Thread Cert.Cmp.nD Cert.Cmp.τ).loc Cert.Cmp.main_arg7) = m ((c.tc : Thread Cert.Cmp.nD Cert.Cmp.τ).loc Cert.Cmp.main_arg7)
      ∧ r.2.mem ((c.tc : Thread Cert.Cmp.nD Cert.Cmp.τ).loc Cert.Cmp.main_arg8) = m ((c.tc : Thread Cert.Cmp.nD Cert.Cmp.τ).loc Cert.Cmp.main_arg8)
      ∧ r.2.mem ((c.tc : Thread Cert.Cmp.nD Cert.Cmp.τ).loc Cert.Cmp.main_arg9) = m ((c.tc : Thread Cert.Cmp.nD Cert.Cmp.τ).loc Cert.Cmp.main_arg9))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
      ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7)
      ∧ r.2.mem ((c.tc : Thread Cert.CmpIdeal.nD Cert.CmpIdeal.τ).loc Cert.CmpIdeal.main_arg8) = m ((c.tc : Thread Cert.CmpIdeal.nD Cert.CmpIdeal.τ).loc Cert.CmpIdeal.main_arg8)
      ∧ r.2.mem ((c.tc : Thread Cert.CmpIdeal.nD Cert.CmpIdeal.τ).loc Cert.CmpIdeal.main_arg9) = m ((c.tc : Thread Cert.CmpIdeal.nD Cert.CmpIdeal.τ).loc Cert.CmpIdeal.main_arg9))
      ∧ r.2.sem = fun _ => 0)

def quiescent_RefCmpIdeal [hRefCmpIdeal : Cert.RefCmpIdeal.Facts] : Prop :=
  ∀ (m : (ℓ : Loc Cert.RefCmpIdeal.nD Cert.RefCmpIdeal.τ Cert.RefCmpIdeal.sig) → Buf (Elt Ideal) ℓ) (g : Dev Cert.RefCmpIdeal.nD → PrngReg), Pre_RefCmpIdeal m →
    θ_run (Cert.RefCmpIdeal.defs (F := Ideal)) (onTc (τ := Cert.RefCmpIdeal.τ) (Cert.RefCmpIdeal.main (F := Ideal))) ⟨m, fun _ => 0, g⟩ (fun r => (∀ c : Dev Cert.RefCmpIdeal.nD,
      r.2.mem ((c.tc : Thread Cert.RefCmpIdeal.nD Cert.RefCmpIdeal.τ).loc Cert.RefCmpIdeal.main_arg0) = m ((c.tc : Thread Cert.RefCmpIdeal.nD Cert.RefCmpIdeal.τ).loc Cert.RefCmpIdeal.main_arg0)
      ∧ r.2.mem ((c.tc : Thread Cert.RefCmpIdeal.nD Cert.RefCmpIdeal.τ).loc Cert.RefCmpIdeal.main_arg1) = m ((c.tc : Thread Cert.RefCmpIdeal.nD Cert.RefCmpIdeal.τ).loc Cert.RefCmpIdeal.main_arg1)
      ∧ r.2.mem ((c.tc : Thread Cert.RefCmpIdeal.nD Cert.RefCmpIdeal.τ).loc Cert.RefCmpIdeal.main_arg2) = m ((c.tc : Thread Cert.RefCmpIdeal.nD Cert.RefCmpIdeal.τ).loc Cert.RefCmpIdeal.main_arg2)
      ∧ r.2.mem ((c.tc : Thread Cert.RefCmpIdeal.nD Cert.RefCmpIdeal.τ).loc Cert.RefCmpIdeal.main_arg3) = m ((c.tc : Thread Cert.RefCmpIdeal.nD Cert.RefCmpIdeal.τ).loc Cert.RefCmpIdeal.main_arg3)
      ∧ r.2.mem ((c.tc : Thread Cert.RefCmpIdeal.nD Cert.RefCmpIdeal.τ).loc Cert.RefCmpIdeal.main_arg4) = m ((c.tc : Thread Cert.RefCmpIdeal.nD Cert.RefCmpIdeal.τ).loc Cert.RefCmpIdeal.main_arg4)
      ∧ r.2.mem ((c.tc : Thread Cert.RefCmpIdeal.nD Cert.RefCmpIdeal.τ).loc Cert.RefCmpIdeal.main_arg5) = m ((c.tc : Thread Cert.RefCmpIdeal.nD Cert.RefCmpIdeal.τ).loc Cert.RefCmpIdeal.main_arg5)
      ∧ r.2.mem ((c.tc : Thread Cert.RefCmpIdeal.nD Cert.RefCmpIdeal.τ).loc Cert.RefCmpIdeal.main_arg6) = m ((c.tc : Thread Cert.RefCmpIdeal.nD Cert.RefCmpIdeal.τ).loc Cert.RefCmpIdeal.main_arg6)
      ∧ r.2.mem ((c.tc : Thread Cert.RefCmpIdeal.nD Cert.RefCmpIdeal.τ).loc Cert.RefCmpIdeal.main_arg7) = m ((c.tc : Thread Cert.RefCmpIdeal.nD Cert.RefCmpIdeal.τ).loc Cert.RefCmpIdeal.main_arg7)
      ∧ r.2.mem ((c.tc : Thread Cert.RefCmpIdeal.nD Cert.RefCmpIdeal.τ).loc Cert.RefCmpIdeal.main_arg8) = m ((c.tc : Thread Cert.RefCmpIdeal.nD Cert.RefCmpIdeal.τ).loc Cert.RefCmpIdeal.main_arg8)
      ∧ r.2.mem ((c.tc : Thread Cert.RefCmpIdeal.nD Cert.RefCmpIdeal.τ).loc Cert.RefCmpIdeal.main_arg9) = m ((c.tc : Thread Cert.RefCmpIdeal.nD Cert.RefCmpIdeal.τ).loc Cert.RefCmpIdeal.main_arg9))
      ∧ r.2.sem = fun _ => 0)

def preserves_Post_PostIdeal : Prop :=
  True

def algebraic_PostIdeal_RefPostIdeal [hPostIdeal : Cert.PostIdeal.Facts] [hRefPostIdeal : Cert.RefPostIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.RefPostIdeal.nD Cert.RefPostIdeal.τ Cert.RefPostIdeal.sig) → Buf (Elt Ideal) ℓ) (g' : Dev Cert.RefPostIdeal.nD → PrngReg), Pre_PostIdeal m →
    (∀ c : Dev Cert.PostIdeal.nD,
      m' ((c.tc : Thread Cert.RefPostIdeal.nD Cert.RefPostIdeal.τ).loc Cert.RefPostIdeal.main_arg0) = m ((c.tc : Thread Cert.PostIdeal.nD Cert.PostIdeal.τ).loc Cert.PostIdeal.main_arg0)
      ∧ m' ((c.tc : Thread Cert.RefPostIdeal.nD Cert.RefPostIdeal.τ).loc Cert.RefPostIdeal.main_arg1) = m ((c.tc : Thread Cert.PostIdeal.nD Cert.PostIdeal.τ).loc Cert.PostIdeal.main_arg1)
      ∧ m' ((c.tc : Thread Cert.RefPostIdeal.nD Cert.RefPostIdeal.τ).loc Cert.RefPostIdeal.main_arg2) = m ((c.tc : Thread Cert.PostIdeal.nD Cert.PostIdeal.τ).loc Cert.PostIdeal.main_arg2)
      ∧ m' ((c.tc : Thread Cert.RefPostIdeal.nD Cert.RefPostIdeal.τ).loc Cert.RefPostIdeal.main_arg3) = m ((c.tc : Thread Cert.PostIdeal.nD Cert.PostIdeal.τ).loc Cert.PostIdeal.main_arg3)
      ∧ m' ((c.tc : Thread Cert.RefPostIdeal.nD Cert.RefPostIdeal.τ).loc Cert.RefPostIdeal.main_arg4) = m ((c.tc : Thread Cert.PostIdeal.nD Cert.PostIdeal.τ).loc Cert.PostIdeal.main_arg4)
      ∧ m' ((c.tc : Thread Cert.RefPostIdeal.nD Cert.RefPostIdeal.τ).loc Cert.RefPostIdeal.main_arg5) = m ((c.tc : Thread Cert.PostIdeal.nD Cert.PostIdeal.τ).loc Cert.PostIdeal.main_arg5)
      ∧ m' ((c.tc : Thread Cert.RefPostIdeal.nD Cert.RefPostIdeal.τ).loc Cert.RefPostIdeal.main_arg6) = m ((c.tc : Thread Cert.PostIdeal.nD Cert.PostIdeal.τ).loc Cert.PostIdeal.main_arg6)
      ∧ m' ((c.tc : Thread Cert.RefPostIdeal.nD Cert.RefPostIdeal.τ).loc Cert.RefPostIdeal.main_arg7) = m ((c.tc : Thread Cert.PostIdeal.nD Cert.PostIdeal.τ).loc Cert.PostIdeal.main_arg7)
      ∧ m' ((c.tc : Thread Cert.RefPostIdeal.nD Cert.RefPostIdeal.τ).loc Cert.RefPostIdeal.main_arg8) = m ((c.tc : Thread Cert.PostIdeal.nD Cert.PostIdeal.τ).loc Cert.PostIdeal.main_arg8)
      ∧ m' ((c.tc : Thread Cert.RefPostIdeal.nD Cert.RefPostIdeal.τ).loc Cert.RefPostIdeal.main_arg9) = m ((c.tc : Thread Cert.PostIdeal.nD Cert.PostIdeal.τ).loc Cert.PostIdeal.main_arg9)
      ∧ m' ((c.tc : Thread Cert.RefPostIdeal.nD Cert.RefPostIdeal.τ).loc Cert.RefPostIdeal.main_arg10) = m ((c.tc : Thread Cert.PostIdeal.nD Cert.PostIdeal.τ).loc Cert.PostIdeal.main_arg10)
      ∧ m' ((c.tc : Thread Cert.RefPostIdeal.nD Cert.RefPostIdeal.τ).loc Cert.RefPostIdeal.main_arg11) = m ((c.tc : Thread Cert.PostIdeal.nD Cert.PostIdeal.τ).loc Cert.PostIdeal.main_arg11)
      ∧ m' ((c.tc : Thread Cert.RefPostIdeal.nD Cert.RefPostIdeal.τ).loc Cert.RefPostIdeal.main_arg12) = m ((c.tc : Thread Cert.PostIdeal.nD Cert.PostIdeal.τ).loc Cert.PostIdeal.main_arg12)
      ∧ m' ((c.tc : Thread Cert.RefPostIdeal.nD Cert.RefPostIdeal.τ).loc Cert.RefPostIdeal.main_arg13) = m ((c.tc : Thread Cert.PostIdeal.nD Cert.PostIdeal.τ).loc Cert.PostIdeal.main_arg13)) →
    ∃ (v0 : (c : Dev Cert.PostIdeal.nD) → Buf (Elt Ideal) ((c.tc : Thread Cert.PostIdeal.nD Cert.PostIdeal.τ).loc Cert.PostIdeal.main_v17)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v17) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ θ_run (Cert.RefPostIdeal.defs (F := Ideal)) (onTc (τ := Cert.RefPostIdeal.τ) (Cert.RefPostIdeal.main (F := Ideal))) ⟨m', fun _ => 0, g'⟩ (fun r => ∀ c : Dev Cert.RefPostIdeal.nD,
          r.2.mem ((c.tc : Thread Cert.RefPostIdeal.nD Cert.RefPostIdeal.τ).loc Cert.RefPostIdeal.main_v60) = v0 c
          ∧ r.2.mem ((c.tc : Thread Cert.RefPostIdeal.nD Cert.RefPostIdeal.τ).loc Cert.RefPostIdeal.main_arg0) = m' ((c.tc : Thread Cert.RefPostIdeal.nD Cert.RefPostIdeal.τ).loc Cert.RefPostIdeal.main_arg0)
          ∧ r.2.mem ((c.tc : Thread Cert.RefPostIdeal.nD Cert.RefPostIdeal.τ).loc Cert.RefPostIdeal.main_arg1) = m' ((c.tc : Thread Cert.RefPostIdeal.nD Cert.RefPostIdeal.τ).loc Cert.RefPostIdeal.main_arg1)
          ∧ r.2.mem ((c.tc : Thread Cert.RefPostIdeal.nD Cert.RefPostIdeal.τ).loc Cert.RefPostIdeal.main_arg2) = m' ((c.tc : Thread Cert.RefPostIdeal.nD Cert.RefPostIdeal.τ).loc Cert.RefPostIdeal.main_arg2)
          ∧ r.2.mem ((c.tc : Thread Cert.RefPostIdeal.nD Cert.RefPostIdeal.τ).loc Cert.RefPostIdeal.main_arg3) = m' ((c.tc : Thread Cert.RefPostIdeal.nD Cert.RefPostIdeal.τ).loc Cert.RefPostIdeal.main_arg3)
          ∧ r.2.mem ((c.tc : Thread Cert.RefPostIdeal.nD Cert.RefPostIdeal.τ).loc Cert.RefPostIdeal.main_arg4) = m' ((c.tc : Thread Cert.RefPostIdeal.nD Cert.RefPostIdeal.τ).loc Cert.RefPostIdeal.main_arg4)
          ∧ r.2.mem ((c.tc : Thread Cert.RefPostIdeal.nD Cert.RefPostIdeal.τ).loc Cert.RefPostIdeal.main_arg5) = m' ((c.tc : Thread Cert.RefPostIdeal.nD Cert.RefPostIdeal.τ).loc Cert.RefPostIdeal.main_arg5)
          ∧ r.2.mem ((c.tc : Thread Cert.RefPostIdeal.nD Cert.RefPostIdeal.τ).loc Cert.RefPostIdeal.main_arg6) = m' ((c.tc : Thread Cert.RefPostIdeal.nD Cert.RefPostIdeal.τ).loc Cert.RefPostIdeal.main_arg6)
          ∧ r.2.mem ((c.tc : Thread Cert.RefPostIdeal.nD Cert.RefPostIdeal.τ).loc Cert.RefPostIdeal.main_arg7) = m' ((c.tc : Thread Cert.RefPostIdeal.nD Cert.RefPostIdeal.τ).loc Cert.RefPostIdeal.main_arg7)
          ∧ r.2.mem ((c.tc : Thread Cert.RefPostIdeal.nD Cert.RefPostIdeal.τ).loc Cert.RefPostIdeal.main_arg8) = m' ((c.tc : Thread Cert.RefPostIdeal.nD Cert.RefPostIdeal.τ).loc Cert.RefPostIdeal.main_arg8)
          ∧ r.2.mem ((c.tc : Thread Cert.RefPostIdeal.nD Cert.RefPostIdeal.τ).loc Cert.RefPostIdeal.main_arg9) = m' ((c.tc : Thread Cert.RefPostIdeal.nD Cert.RefPostIdeal.τ).loc Cert.RefPostIdeal.main_arg9)
          ∧ r.2.mem ((c.tc : Thread Cert.RefPostIdeal.nD Cert.RefPostIdeal.τ).loc Cert.RefPostIdeal.main_arg10) = m' ((c.tc : Thread Cert.RefPostIdeal.nD Cert.RefPostIdeal.τ).loc Cert.RefPostIdeal.main_arg10)
          ∧ r.2.mem ((c.tc : Thread Cert.RefPostIdeal.nD Cert.RefPostIdeal.τ).loc Cert.RefPostIdeal.main_arg11) = m' ((c.tc : Thread Cert.RefPostIdeal.nD Cert.RefPostIdeal.τ).loc Cert.RefPostIdeal.main_arg11)
          ∧ r.2.mem ((c.tc : Thread Cert.RefPostIdeal.nD Cert.RefPostIdeal.τ).loc Cert.RefPostIdeal.main_arg12) = m' ((c.tc : Thread Cert.RefPostIdeal.nD Cert.RefPostIdeal.τ).loc Cert.RefPostIdeal.main_arg12)
          ∧ r.2.mem ((c.tc : Thread Cert.RefPostIdeal.nD Cert.RefPostIdeal.τ).loc Cert.RefPostIdeal.main_arg13) = m' ((c.tc : Thread Cert.RefPostIdeal.nD Cert.RefPostIdeal.τ).loc Cert.RefPostIdeal.main_arg13))

def preserves_Conv_ConvIdeal : Prop :=
  True

def algebraic_ConvIdeal_RefConvIdeal [hConvIdeal : Cert.ConvIdeal.Facts] [hRefConvIdeal : Cert.RefConvIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.RefConvIdeal.nD Cert.RefConvIdeal.τ Cert.RefConvIdeal.sig) → Buf (Elt Ideal) ℓ) (g' : Dev Cert.RefConvIdeal.nD → PrngReg), Pre_ConvIdeal m →
    (∀ c : Dev Cert.ConvIdeal.nD,
      m' ((c.tc : Thread Cert.RefConvIdeal.nD Cert.RefConvIdeal.τ).loc Cert.RefConvIdeal.main_arg0) = m ((c.tc : Thread Cert.ConvIdeal.nD Cert.ConvIdeal.τ).loc Cert.ConvIdeal.main_arg0)
      ∧ m' ((c.tc : Thread Cert.RefConvIdeal.nD Cert.RefConvIdeal.τ).loc Cert.RefConvIdeal.main_arg1) = m ((c.tc : Thread Cert.ConvIdeal.nD Cert.ConvIdeal.τ).loc Cert.ConvIdeal.main_arg1)
      ∧ m' ((c.tc : Thread Cert.RefConvIdeal.nD Cert.RefConvIdeal.τ).loc Cert.RefConvIdeal.main_arg2) = m ((c.tc : Thread Cert.ConvIdeal.nD Cert.ConvIdeal.τ).loc Cert.ConvIdeal.main_arg2)
      ∧ m' ((c.tc : Thread Cert.RefConvIdeal.nD Cert.RefConvIdeal.τ).loc Cert.RefConvIdeal.main_arg3) = m ((c.tc : Thread Cert.ConvIdeal.nD Cert.ConvIdeal.τ).loc Cert.ConvIdeal.main_arg3)
      ∧ m' ((c.tc : Thread Cert.RefConvIdeal.nD Cert.RefConvIdeal.τ).loc Cert.RefConvIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v6)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v6) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.RefConvIdeal.defs (F := Ideal)) (onTc (τ := Cert.RefConvIdeal.τ) (Cert.RefConvIdeal.main (F := Ideal))) ⟨m', fun _ => 0, g'⟩ (fun r => ∀ c : Dev Cert.RefConvIdeal.nD,
          r.2.mem ((c.tc : Thread Cert.RefConvIdeal.nD Cert.RefConvIdeal.τ).loc Cert.RefConvIdeal.main_v254) = v0 c
          ∧ r.2.mem ((c.tc : Thread Cert.RefConvIdeal.nD Cert.RefConvIdeal.τ).loc Cert.RefConvIdeal.main_arg0) = m' ((c.tc : Thread Cert.RefConvIdeal.nD Cert.RefConvIdeal.τ).loc Cert.RefConvIdeal.main_arg0)
          ∧ r.2.mem ((c.tc : Thread Cert.RefConvIdeal.nD Cert.RefConvIdeal.τ).loc Cert.RefConvIdeal.main_arg1) = m' ((c.tc : Thread Cert.RefConvIdeal.nD Cert.RefConvIdeal.τ).loc Cert.RefConvIdeal.main_arg1)
          ∧ r.2.mem ((c.tc : Thread Cert.RefConvIdeal.nD Cert.RefConvIdeal.τ).loc Cert.RefConvIdeal.main_arg2) = m' ((c.tc : Thread Cert.RefConvIdeal.nD Cert.RefConvIdeal.τ).loc Cert.RefConvIdeal.main_arg2)
          ∧ r.2.mem ((c.tc : Thread Cert.RefConvIdeal.nD Cert.RefConvIdeal.τ).loc Cert.RefConvIdeal.main_arg3) = m' ((c.tc : Thread Cert.RefConvIdeal.nD Cert.RefConvIdeal.τ).loc Cert.RefConvIdeal.main_arg3)
          ∧ r.2.mem ((c.tc : Thread Cert.RefConvIdeal.nD Cert.RefConvIdeal.τ).loc Cert.RefConvIdeal.main_arg4) = m' ((c.tc : Thread Cert.RefConvIdeal.nD Cert.RefConvIdeal.τ).loc Cert.RefConvIdeal.main_arg4))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)
      ∧ m' ((c.tc : Thread Cert.RefProjIdeal.nD Cert.RefProjIdeal.τ).loc Cert.RefProjIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v24)) (v1 : (c : Dev Cert.ProjIdeal.nD) → Buf (Elt Ideal) ((c.tc : Thread Cert.ProjIdeal.nD Cert.ProjIdeal.τ).loc Cert.ProjIdeal.main_v25)) (v2 : (c : Dev Cert.ProjIdeal.nD) → Buf (Elt Ideal) ((c.tc : Thread Cert.ProjIdeal.nD Cert.ProjIdeal.τ).loc Cert.ProjIdeal.main_v26)) (v3 : (c : Dev Cert.ProjIdeal.nD) → Buf (Elt Ideal) ((c.tc : Thread Cert.ProjIdeal.nD Cert.ProjIdeal.τ).loc Cert.ProjIdeal.main_v27)) (v4 : (c : Dev Cert.ProjIdeal.nD) → Buf (Elt Ideal) ((c.tc : Thread Cert.ProjIdeal.nD Cert.ProjIdeal.τ).loc Cert.ProjIdeal.main_v28)) (v5 : (c : Dev Cert.ProjIdeal.nD) → Buf (Elt Ideal) ((c.tc : Thread Cert.ProjIdeal.nD Cert.ProjIdeal.τ).loc Cert.ProjIdeal.main_v23_5)) (v6 : (c : Dev Cert.ProjIdeal.nD) → Buf (Elt Ideal) ((c.tc : Thread Cert.ProjIdeal.nD Cert.ProjIdeal.τ).loc Cert.ProjIdeal.main_v23_6)) (v7 : (c : Dev Cert.ProjIdeal.nD) → Buf (Elt Ideal) ((c.tc : Thread Cert.ProjIdeal.nD Cert.ProjIdeal.τ).loc Cert.ProjIdeal.main_v23_7)) (v8 : (c : Dev Cert.ProjIdeal.nD) → Buf (Elt Ideal) ((c.tc : Thread Cert.ProjIdeal.nD Cert.ProjIdeal.τ).loc Cert.ProjIdeal.main_v29)) (v9 : (c : Dev Cert.ProjIdeal.nD) → Buf (Elt Ideal) ((c.tc : Thread Cert.ProjIdeal.nD Cert.ProjIdeal.τ).loc Cert.ProjIdeal.main_v31)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v24) = v0 c
          ∧ r.2.mem ((c.tc : Thread Cert.ProjIdeal.nD Cert.ProjIdeal.τ).loc Cert.ProjIdeal.main_v25) = v1 c
          ∧ r.2.mem ((c.tc : Thread Cert.ProjIdeal.nD Cert.ProjIdeal.τ).loc Cert.ProjIdeal.main_v26) = v2 c
          ∧ r.2.mem ((c.tc : Thread Cert.ProjIdeal.nD Cert.ProjIdeal.τ).loc Cert.ProjIdeal.main_v27) = v3 c
          ∧ r.2.mem ((c.tc : Thread Cert.ProjIdeal.nD Cert.ProjIdeal.τ).loc Cert.ProjIdeal.main_v28) = v4 c
          ∧ r.2.mem ((c.tc : Thread Cert.ProjIdeal.nD Cert.ProjIdeal.τ).loc Cert.ProjIdeal.main_v23_5) = v5 c
          ∧ r.2.mem ((c.tc : Thread Cert.ProjIdeal.nD Cert.ProjIdeal.τ).loc Cert.ProjIdeal.main_v23_6) = v6 c
          ∧ r.2.mem ((c.tc : Thread Cert.ProjIdeal.nD Cert.ProjIdeal.τ).loc Cert.ProjIdeal.main_v23_7) = v7 c
          ∧ r.2.mem ((c.tc : Thread Cert.ProjIdeal.nD Cert.ProjIdeal.τ).loc Cert.ProjIdeal.main_v29) = v8 c
          ∧ r.2.mem ((c.tc : Thread Cert.ProjIdeal.nD Cert.ProjIdeal.τ).loc Cert.ProjIdeal.main_v31) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v33) = v0 c
          ∧ r.2.mem ((c.tc : Thread Cert.RefProjIdeal.nD Cert.RefProjIdeal.τ).loc Cert.RefProjIdeal.main_v36) = v1 c
          ∧ r.2.mem ((c.tc : Thread Cert.RefProjIdeal.nD Cert.RefProjIdeal.τ).loc Cert.RefProjIdeal.main_v39) = v2 c
          ∧ r.2.mem ((c.tc : Thread Cert.RefProjIdeal.nD Cert.RefProjIdeal.τ).loc Cert.RefProjIdeal.main_v42) = v3 c
          ∧ r.2.mem ((c.tc : Thread Cert.RefProjIdeal.nD Cert.RefProjIdeal.τ).loc Cert.RefProjIdeal.main_v45) = v4 c
          ∧ r.2.mem ((c.tc : Thread Cert.RefProjIdeal.nD Cert.RefProjIdeal.τ).loc Cert.RefProjIdeal.main_v47) = v5 c
          ∧ r.2.mem ((c.tc : Thread Cert.RefProjIdeal.nD Cert.RefProjIdeal.τ).loc Cert.RefProjIdeal.main_v48) = v6 c
          ∧ r.2.mem ((c.tc : Thread Cert.RefProjIdeal.nD Cert.RefProjIdeal.τ).loc Cert.RefProjIdeal.main_v50) = v7 c
          ∧ r.2.mem ((c.tc : Thread Cert.RefProjIdeal.nD Cert.RefProjIdeal.τ).loc Cert.RefProjIdeal.main_v52) = v8 c
          ∧ r.2.mem ((c.tc : Thread Cert.RefProjIdeal.nD Cert.RefProjIdeal.τ).loc Cert.RefProjIdeal.main_v53) = v9 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2)
          ∧ r.2.mem ((c.tc : Thread Cert.RefProjIdeal.nD Cert.RefProjIdeal.τ).loc Cert.RefProjIdeal.main_arg3) = m' ((c.tc : Thread Cert.RefProjIdeal.nD Cert.RefProjIdeal.τ).loc Cert.RefProjIdeal.main_arg3))

def preserves_Cmp_CmpIdeal : Prop :=
  True

def algebraic_CmpIdeal_RefCmpIdeal [hCmpIdeal : Cert.CmpIdeal.Facts] [hRefCmpIdeal : Cert.RefCmpIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.RefCmpIdeal.nD Cert.RefCmpIdeal.τ Cert.RefCmpIdeal.sig) → Buf (Elt Ideal) ℓ) (g' : Dev Cert.RefCmpIdeal.nD → PrngReg), Pre_CmpIdeal m →
    (∀ c : Dev Cert.CmpIdeal.nD,
      m' ((c.tc : Thread Cert.RefCmpIdeal.nD Cert.RefCmpIdeal.τ).loc Cert.RefCmpIdeal.main_arg0) = m ((c.tc : Thread Cert.CmpIdeal.nD Cert.CmpIdeal.τ).loc Cert.CmpIdeal.main_arg0)
      ∧ m' ((c.tc : Thread Cert.RefCmpIdeal.nD Cert.RefCmpIdeal.τ).loc Cert.RefCmpIdeal.main_arg1) = m ((c.tc : Thread Cert.CmpIdeal.nD Cert.CmpIdeal.τ).loc Cert.CmpIdeal.main_arg1)
      ∧ m' ((c.tc : Thread Cert.RefCmpIdeal.nD Cert.RefCmpIdeal.τ).loc Cert.RefCmpIdeal.main_arg2) = m ((c.tc : Thread Cert.CmpIdeal.nD Cert.CmpIdeal.τ).loc Cert.CmpIdeal.main_arg2)
      ∧ m' ((c.tc : Thread Cert.RefCmpIdeal.nD Cert.RefCmpIdeal.τ).loc Cert.RefCmpIdeal.main_arg3) = m ((c.tc : Thread Cert.CmpIdeal.nD Cert.CmpIdeal.τ).loc Cert.CmpIdeal.main_arg3)
      ∧ m' ((c.tc : Thread Cert.RefCmpIdeal.nD Cert.RefCmpIdeal.τ).loc Cert.RefCmpIdeal.main_arg4) = m ((c.tc : Thread Cert.CmpIdeal.nD Cert.CmpIdeal.τ).loc Cert.CmpIdeal.main_arg4)
      ∧ m' ((c.tc : Thread Cert.RefCmpIdeal.nD Cert.RefCmpIdeal.τ).loc Cert.RefCmpIdeal.main_arg5) = m ((c.tc : Thread Cert.CmpIdeal.nD Cert.CmpIdeal.τ).loc Cert.CmpIdeal.main_arg5)
      ∧ m' ((c.tc : Thread Cert.RefCmpIdeal.nD Cert.RefCmpIdeal.τ).loc Cert.RefCmpIdeal.main_arg6) = m ((c.tc : Thread Cert.CmpIdeal.nD Cert.CmpIdeal.τ).loc Cert.CmpIdeal.main_arg6)
      ∧ m' ((c.tc : Thread Cert.RefCmpIdeal.nD Cert.RefCmpIdeal.τ).loc Cert.RefCmpIdeal.main_arg7) = m ((c.tc : Thread Cert.CmpIdeal.nD Cert.CmpIdeal.τ).loc Cert.CmpIdeal.main_arg7)
      ∧ m' ((c.tc : Thread Cert.RefCmpIdeal.nD Cert.RefCmpIdeal.τ).loc Cert.RefCmpIdeal.main_arg8) = m ((c.tc : Thread Cert.CmpIdeal.nD Cert.CmpIdeal.τ).loc Cert.CmpIdeal.main_arg8)
      ∧ m' ((c.tc : Thread Cert.RefCmpIdeal.nD Cert.RefCmpIdeal.τ).loc Cert.RefCmpIdeal.main_arg9) = m ((c.tc : Thread Cert.CmpIdeal.nD Cert.CmpIdeal.τ).loc Cert.CmpIdeal.main_arg9)) →
    ∃ (v0 : (c : Dev Cert.CmpIdeal.nD) → Buf (Elt Ideal) ((c.tc : Thread Cert.CmpIdeal.nD Cert.CmpIdeal.τ).loc Cert.CmpIdeal.main_v43)) (v1 : (c : Dev Cert.CmpIdeal.nD) → Buf (Elt Ideal) ((c.tc : Thread Cert.CmpIdeal.nD Cert.CmpIdeal.τ).loc Cert.CmpIdeal.main_v45)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v43) = v0 c
          ∧ r.2.mem ((c.tc : Thread Cert.CmpIdeal.nD Cert.CmpIdeal.τ).loc Cert.CmpIdeal.main_v45) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
          ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7)
          ∧ r.2.mem ((c.tc : Thread Cert.CmpIdeal.nD Cert.CmpIdeal.τ).loc Cert.CmpIdeal.main_arg8) = m ((c.tc : Thread Cert.CmpIdeal.nD Cert.CmpIdeal.τ).loc Cert.CmpIdeal.main_arg8)
          ∧ r.2.mem ((c.tc : Thread Cert.CmpIdeal.nD Cert.CmpIdeal.τ).loc Cert.CmpIdeal.main_arg9) = m ((c.tc : Thread Cert.CmpIdeal.nD Cert.CmpIdeal.τ).loc Cert.CmpIdeal.main_arg9))
      ∧ θ_run (Cert.RefCmpIdeal.defs (F := Ideal)) (onTc (τ := Cert.RefCmpIdeal.τ) (Cert.RefCmpIdeal.main (F := Ideal))) ⟨m', fun _ => 0, g'⟩ (fun r => ∀ c : Dev Cert.RefCmpIdeal.nD,
          r.2.mem ((c.tc : Thread Cert.RefCmpIdeal.nD Cert.RefCmpIdeal.τ).loc Cert.RefCmpIdeal.main_v32) = v0 c
          ∧ r.2.mem ((c.tc : Thread Cert.RefCmpIdeal.nD Cert.RefCmpIdeal.τ).loc Cert.RefCmpIdeal.main_v33) = v1 c
          ∧ r.2.mem ((c.tc : Thread Cert.RefCmpIdeal.nD Cert.RefCmpIdeal.τ).loc Cert.RefCmpIdeal.main_arg0) = m' ((c.tc : Thread Cert.RefCmpIdeal.nD Cert.RefCmpIdeal.τ).loc Cert.RefCmpIdeal.main_arg0)
          ∧ r.2.mem ((c.tc : Thread Cert.RefCmpIdeal.nD Cert.RefCmpIdeal.τ).loc Cert.RefCmpIdeal.main_arg1) = m' ((c.tc : Thread Cert.RefCmpIdeal.nD Cert.RefCmpIdeal.τ).loc Cert.RefCmpIdeal.main_arg1)
          ∧ r.2.mem ((c.tc : Thread Cert.RefCmpIdeal.nD Cert.RefCmpIdeal.τ).loc Cert.RefCmpIdeal.main_arg2) = m' ((c.tc : Thread Cert.RefCmpIdeal.nD Cert.RefCmpIdeal.τ).loc Cert.RefCmpIdeal.main_arg2)
          ∧ r.2.mem ((c.tc : Thread Cert.RefCmpIdeal.nD Cert.RefCmpIdeal.τ).loc Cert.RefCmpIdeal.main_arg3) = m' ((c.tc : Thread Cert.RefCmpIdeal.nD Cert.RefCmpIdeal.τ).loc Cert.RefCmpIdeal.main_arg3)
          ∧ r.2.mem ((c.tc : Thread Cert.RefCmpIdeal.nD Cert.RefCmpIdeal.τ).loc Cert.RefCmpIdeal.main_arg4) = m' ((c.tc : Thread Cert.RefCmpIdeal.nD Cert.RefCmpIdeal.τ).loc Cert.RefCmpIdeal.main_arg4)
          ∧ r.2.mem ((c.tc : Thread Cert.RefCmpIdeal.nD Cert.RefCmpIdeal.τ).loc Cert.RefCmpIdeal.main_arg5) = m' ((c.tc : Thread Cert.RefCmpIdeal.nD Cert.RefCmpIdeal.τ).loc Cert.RefCmpIdeal.main_arg5)
          ∧ r.2.mem ((c.tc : Thread Cert.RefCmpIdeal.nD Cert.RefCmpIdeal.τ).loc Cert.RefCmpIdeal.main_arg6) = m' ((c.tc : Thread Cert.RefCmpIdeal.nD Cert.RefCmpIdeal.τ).loc Cert.RefCmpIdeal.main_arg6)
          ∧ r.2.mem ((c.tc : Thread Cert.RefCmpIdeal.nD Cert.RefCmpIdeal.τ).loc Cert.RefCmpIdeal.main_arg7) = m' ((c.tc : Thread Cert.RefCmpIdeal.nD Cert.RefCmpIdeal.τ).loc Cert.RefCmpIdeal.main_arg7)
          ∧ r.2.mem ((c.tc : Thread Cert.RefCmpIdeal.nD Cert.RefCmpIdeal.τ).loc Cert.RefCmpIdeal.main_arg8) = m' ((c.tc : Thread Cert.RefCmpIdeal.nD Cert.RefCmpIdeal.τ).loc Cert.RefCmpIdeal.main_arg8)
          ∧ r.2.mem ((c.tc : Thread Cert.RefCmpIdeal.nD Cert.RefCmpIdeal.τ).loc Cert.RefCmpIdeal.main_arg9) = m' ((c.tc : Thread Cert.RefCmpIdeal.nD Cert.RefCmpIdeal.τ).loc Cert.RefCmpIdeal.main_arg9))

def Claim : Prop :=
  ∃ (hPost : Cert.Post.Facts) (hPostIdeal : Cert.PostIdeal.Facts) (hRefPostIdeal : Cert.RefPostIdeal.Facts) (hConv : Cert.Conv.Facts) (hConvIdeal : Cert.ConvIdeal.Facts) (hRefConvIdeal : Cert.RefConvIdeal.Facts) (hProj : Cert.Proj.Facts) (hProjIdeal : Cert.ProjIdeal.Facts) (hRefProjIdeal : Cert.RefProjIdeal.Facts) (hCmp : Cert.Cmp.Facts) (hCmpIdeal : Cert.CmpIdeal.Facts) (hRefCmpIdeal : Cert.RefCmpIdeal.Facts),
    quiescent_Post (hPost := hPost)
    ∧ quiescent_PostIdeal (hPostIdeal := hPostIdeal)
    ∧ quiescent_RefPostIdeal (hRefPostIdeal := hRefPostIdeal)
    ∧ quiescent_Conv (hConv := hConv)
    ∧ quiescent_ConvIdeal (hConvIdeal := hConvIdeal)
    ∧ quiescent_RefConvIdeal (hRefConvIdeal := hRefConvIdeal)
    ∧ quiescent_Proj (hProj := hProj)
    ∧ quiescent_ProjIdeal (hProjIdeal := hProjIdeal)
    ∧ quiescent_RefProjIdeal (hRefProjIdeal := hRefProjIdeal)
    ∧ quiescent_Cmp (hCmp := hCmp)
    ∧ quiescent_CmpIdeal (hCmpIdeal := hCmpIdeal)
    ∧ quiescent_RefCmpIdeal (hRefCmpIdeal := hRefCmpIdeal)
    ∧ preserves_Post_PostIdeal
    ∧ algebraic_PostIdeal_RefPostIdeal (hPostIdeal := hPostIdeal) (hRefPostIdeal := hRefPostIdeal)
    ∧ preserves_Conv_ConvIdeal
    ∧ algebraic_ConvIdeal_RefConvIdeal (hConvIdeal := hConvIdeal) (hRefConvIdeal := hRefConvIdeal)
    ∧ preserves_Proj_ProjIdeal
    ∧ algebraic_ProjIdeal_RefProjIdeal (hProjIdeal := hProjIdeal) (hRefProjIdeal := hRefProjIdeal)
    ∧ preserves_Cmp_CmpIdeal
    ∧ algebraic_CmpIdeal_RefCmpIdeal (hCmpIdeal := hCmpIdeal) (hRefCmpIdeal := hRefCmpIdeal)
-- ==== Post.lean ====
abbrev S8x8192x1024 : Shape := ⟨3, ![8, 8192, 1024]⟩
abbrev S8x8192x512 : Shape := ⟨3, ![8, 8192, 512]⟩
abbrev S8x8192x256 : Shape := ⟨3, ![8, 8192, 256]⟩
abbrev S2x8x8192x256 : Shape := ⟨4, ![2, 8, 8192, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S65536x1024 : Shape := ⟨2, ![65536, 1024]⟩
abbrev S65536x512 : Shape := ⟨2, ![65536, 512]⟩
abbrev S65536x256 : Shape := ⟨2, ![65536, 256]⟩
abbrev S2x65536x256 : Shape := ⟨3, ![2, 65536, 256]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S1x512x256 : Shape := ⟨3, ![1, 512, 256]⟩
abbrev S512 : Shape := ⟨1, ![512]⟩
abbrev S512x1 : Shape := ⟨2, ![512, 1]⟩
abbrev S512x2816 : Shape := ⟨2, ![512, 2816]⟩

abbrev nBuf : Space → Nat
  | .hbm => 32
  | .vmem => 21
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x256, .f32⟩
  | .hbm, ⟨3, _⟩ => ⟨S8x8192x256, .f32⟩
  | .hbm, ⟨4, _⟩ => ⟨S2x8x8192x256, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S1024, .f32⟩
  | .hbm, ⟨14, _⟩ => ⟨S65536x1024, .f32⟩
  | .hbm, ⟨15, _⟩ => ⟨S8x8192x512, .bf16⟩
  | .hbm, ⟨16, _⟩ => ⟨S65536x512, .bf16⟩
  | .hbm, ⟨17, _⟩ => ⟨S8x8192x256, .bf16⟩
  | .hbm, ⟨18, _⟩ => ⟨S65536x256, .bf16⟩
  | .hbm, ⟨19, _⟩ => ⟨S8x8192x256, .bf16⟩
  | .hbm, ⟨20, _⟩ => ⟨S65536x256, .bf16⟩
  | .hbm, ⟨21, _⟩ => ⟨S2x65536x256, .f32⟩
  | .hbm, ⟨22, _⟩ => ⟨S1024x1024, .bf16⟩
  | .hbm, ⟨23, _⟩ => ⟨S1x1024, .f32⟩
  | .hbm, ⟨24, _⟩ => ⟨S1024x2816, .bf16⟩
  | .hbm, ⟨25, _⟩ => ⟨S1024x2816, .bf16⟩
  | .hbm, ⟨26, _⟩ => ⟨S2816x1024, .bf16⟩
  | .hbm, ⟨27, _⟩ => ⟨S1x1024, .f32⟩
  | .hbm, ⟨28, _⟩ => ⟨S1024x1024, .bf16⟩
  | .hbm, ⟨29, _⟩ => ⟨S256x1024, .bf16⟩
  | .hbm, ⟨30, _⟩ => ⟨S1x1024, .f32⟩
  | .hbm, ⟨31, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1x512x256, .f32⟩
  | .local _ .vmem, ⟨9, _⟩ => ⟨S1x512x256, .f32⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1024x1024, .bf16⟩
  | .local _ .vmem, ⟨17, _⟩ => ⟨S256x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RefPostIdeal.lean ====
abbrev S8x8192x1024 : Shape := ⟨3, ![8, 8192, 1024]⟩
abbrev S8x8192x512 : Shape := ⟨3, ![8, 8192, 512]⟩
abbrev S8x8192x256 : Shape := ⟨3, ![8, 8192, 256]⟩
abbrev S2x8x8192x256 : Shape := ⟨4, ![2, 8, 8192, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩
abbrev S1x8x8192x256 : Shape := ⟨4, ![1, 8, 8192, 256]⟩
abbrev S65536x1024 : Shape := ⟨2, ![65536, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x256, .f32⟩
  | .hbm, ⟨3, _⟩ => ⟨S8x8192x256, .f32⟩
  | .hbm, ⟨4, _⟩ => ⟨S2x8x8192x256, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S1024, .f32⟩
  | .hbm, ⟨14, _⟩ => ⟨S8x8192x1024, .f32⟩
  | .hbm, ⟨15, _⟩ => ⟨S8x8192x1024, .f32⟩
  | .hbm, ⟨16, _⟩ => ⟨S8x8192x1024, .f32⟩
  | .hbm, ⟨17, _⟩ => ⟨S8x8192x1024, .f32⟩
  | .hbm, ⟨18, _⟩ => ⟨S_, .f32⟩
  | .hbm, ⟨19, _⟩ => ⟨S8x8192, .f32⟩
  | .hbm, ⟨20, _⟩ => ⟨S8x8192x1, .f32⟩
  | .hbm, ⟨21, _⟩ => ⟨S_, .f32⟩
  | .hbm, ⟨22, _⟩ => ⟨S8x8192x1, .f32⟩
  | .hbm, ⟨23, _⟩ => ⟨S8x8192x1, .f32⟩
  | .hbm, ⟨24, _⟩ => ⟨S_, .f32⟩
  | .hbm, ⟨25, _⟩ => ⟨S8x8192x1, .f32⟩
  | .hbm, ⟨26, _⟩ => ⟨S8x8192x1, .f32⟩
  | .hbm, ⟨27, _⟩ => ⟨S8x8192x1, .f32⟩
  | .hbm, ⟨28, _⟩ => ⟨S8x8192x1024, .f32⟩
  | .hbm, ⟨29, _⟩ => ⟨S8x8192x1024, .f32⟩
  | .hbm, ⟨30, _⟩ => ⟨S1x1x1024, .f32⟩
  | .hbm, ⟨31, _⟩ => ⟨S8x8192x1024, .f32⟩
  | .hbm, ⟨32, _⟩ => ⟨S8x8192x1024, .f32⟩
  | .hbm, ⟨33, _⟩ => ⟨S8x8192x2816, .f32⟩
  | .hbm, ⟨34, _⟩ => ⟨S8x8192x2816, .f32⟩
  | .hbm, ⟨35, _⟩ => ⟨S8x8192x2816, .f32⟩
  | .hbm, ⟨36, _⟩ => ⟨S_, .f32⟩
  | .hbm, ⟨37, _⟩ => ⟨S8x8192x2816, .f32⟩
  | .hbm, ⟨38, _⟩ => ⟨S8x8192x2816, .f32⟩
  | .hbm, ⟨39, _⟩ => ⟨S_, .f32⟩
  | .hbm, ⟨40, _⟩ => ⟨S8x8192x2816, .f32⟩
  | .hbm, ⟨41, _⟩ => ⟨S8x8192x2816, .f32⟩
  | .hbm, ⟨42, _⟩ => ⟨S8x8192x2816, .f32⟩
  | .hbm, ⟨43, _⟩ => ⟨S8x8192x2816, .f32⟩
  | .hbm, ⟨44, _⟩ => ⟨S8x8192x2816, .f32⟩
  | .hbm, ⟨45, _⟩ => ⟨S8x8192x1024, .f32⟩
  | .hbm, ⟨46, _⟩ => ⟨S8x8192x1024, .f32⟩
  | .hbm, ⟨47, _⟩ => ⟨S8x8192x1024, .f32⟩
  | .hbm, ⟨48, _⟩ => ⟨S_, .f32⟩
  | .hbm, ⟨49, _⟩ => ⟨S8x8192, .f32⟩
  | .hbm, ⟨50, _⟩ => ⟨S8x8192x1, .f32⟩
  | .hbm, ⟨51, _⟩ => ⟨S_, .f32⟩
  | .hbm, ⟨52, _⟩ => ⟨S8x8192x1, .f32⟩
  | .hbm, ⟨53, _⟩ => ⟨S8x8192x1, .f32⟩
  | .hbm, ⟨54, _⟩ => ⟨S_, .f32⟩
  | .hbm, ⟨55, _⟩ => ⟨S8x8192x1, .f32⟩
  | .hbm, ⟨56, _⟩ => ⟨S8x8192x1, .f32⟩
  | .hbm, ⟨57, _⟩ => ⟨S8x8192x1, .f32⟩
  | .hbm, ⟨58, _⟩ => ⟨S8x8192x1024, .f32⟩
  | .hbm, ⟨59, _⟩ => ⟨S8x8192x1024, .f32⟩
  | .hbm, ⟨60, _⟩ => ⟨S1x1x1024, .f32⟩
  | .hbm, ⟨61, _⟩ => ⟨S8x8192x1024, .f32⟩
  | .hbm, ⟨62, _⟩ => ⟨S8x8192x1024, .f32⟩
  | .hbm, ⟨63, _⟩ => ⟨S8x8192x1024, .f32⟩
  | .hbm, ⟨64, _⟩ => ⟨S8x8192x1024, .f32⟩
  | .hbm, ⟨65, _⟩ => ⟨S8x8192x1024, .f32⟩
  | .hbm, ⟨66, _⟩ => ⟨S_, .f32⟩
  | .hbm, ⟨67, _⟩ => ⟨S8x8192x1024, .f32⟩
  | .hbm, ⟨68, _⟩ => ⟨S8x8192x1024, .f32⟩
  | .hbm, ⟨69, _⟩ => ⟨S_, .f32⟩
  | .hbm, ⟨70, _⟩ => ⟨S8x8192x1024, .f32⟩
  | .hbm, ⟨71, _⟩ => ⟨S8x8192x1024, .f32⟩
  | .hbm, ⟨72, _⟩ => ⟨S1x8x8192x256, .f32⟩
  | .hbm, ⟨73, _⟩ => ⟨S8x8192x256, .f32⟩
  | .hbm, ⟨74, _⟩ => ⟨S8x8192x1024, .f32⟩
  | .hbm, ⟨75, _⟩ => ⟨S8x8192x1024, .f32⟩
  | .hbm, ⟨76, _⟩ => ⟨S8x8192x1024, .f32⟩
  | .hbm, ⟨77, _⟩ => ⟨S8x8192x1024, .f32⟩
  | .hbm, ⟨78, _⟩ => ⟨S_, .f32⟩
  | .hbm, ⟨79, _⟩ => ⟨S8x8192, .f32⟩
  | .hbm, ⟨80, _⟩ => ⟨S8x8192x1, .f32⟩
  | .hbm, ⟨81, _⟩ => ⟨S_, .f32⟩
  | .hbm, ⟨82, _⟩ => ⟨S8x8192x1, .f32⟩
  | .hbm, ⟨83, _⟩ => ⟨S8x8192x1, .f32⟩
  | .hbm, ⟨84, _⟩ => ⟨S_, .f32⟩
  | .hbm, ⟨85, _⟩ => ⟨S8x8192x1, .f32⟩
  | .hbm, ⟨86, _⟩ => ⟨S8x8192x1, .f32⟩
  | .hbm, ⟨87, _⟩ => ⟨S8x8192x1, .f32⟩
  | .hbm, ⟨88, _⟩ => ⟨S8x8192x1024, .f32⟩
  | .hbm, ⟨89, _⟩ => ⟨S8x8192x1024, .f32⟩
  | .hbm, ⟨90, _⟩ => ⟨S1x1x1024, .f32⟩
  | .hbm, ⟨91, _⟩ => ⟨S8x8192x1024, .f32⟩
  | .hbm, ⟨92, _⟩ => ⟨S8x8192x1024, .f32⟩
  | .hbm, ⟨93, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_2 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_5 : Ref sig .tc := ⟨.hbm, 66, rfl⟩
abbrev main_v38 : Ref sig .tc := ⟨.hbm, 67, rfl⟩
abbrev main_v39 : Ref sig .tc := ⟨.hbm, 68, rfl⟩
abbrev main_cst_6 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_7 : Ref sig .tc := ⟨.hbm, 78, rfl⟩
abbrev main_v48 : Ref sig .tc := ⟨.hbm, 79, rfl⟩
abbrev main_v49 : Ref sig .tc := ⟨.hbm, 80, rfl⟩
abbrev main_cst_8 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩

abbrev nD : Nat := 1
abbrev τ : Topo := Topo.v7x

variable {F : FTy → Type} [FloatOps F]
-- ==== Conv.lean ====
abbrev S8x8192x512 : Shape := ⟨3, ![8, 8192, 512]⟩
abbrev S31x256 : Shape := ⟨2, ![31, 256]⟩
abbrev S256 : Shape := ⟨1, ![256]⟩
abbrev S_ : Shape := ⟨0, ![]⟩
abbrev S32x256 : Shape := ⟨2, ![32, 256]⟩
abbrev S1 : Shape := ⟨1, ![1]⟩
abbrev S1x256 : Shape := ⟨2, ![1, 256]⟩
abbrev S8x8192x256 : Shape := ⟨3, ![8, 8192, 256]⟩
abbrev S1x512x512 : Shape := ⟨3, ![1, 512, 512]⟩
abbrev S1x32x512 : Shape := ⟨3, ![1, 32, 512]⟩
abbrev S1x512x256 : Shape := ⟨3, ![1, 512, 256]⟩
abbrev S552x256 : Shape := ⟨2, ![552, 256]⟩
abbrev S544x256 : Shape := ⟨2, ![544, 256]⟩
abbrev S32x512 : Shape := ⟨2, ![32, 512]⟩
abbrev S512x512 : Shape := ⟨2, ![512, 512]⟩
abbrev S512x256 : Shape := ⟨2, ![512, 256]⟩
abbrev S8x256 : Shape := ⟨2, ![8, 256]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S8x8192x512, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S32x256, .f32⟩
  | .hbm, ⟨7, _⟩ => ⟨S_, .i32⟩
  | .hbm, ⟨8, _⟩ => ⟨S1, .i32⟩
  | .hbm, ⟨9, _⟩ => ⟨S32x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S8x8192x256, .bf16⟩
  | .local _ .vmem, ⟨0, _⟩ => ⟨S1x512x512, .f32⟩
  | .local _ .vmem, ⟨1, _⟩ => ⟨S1x512x512, .f32⟩
  | .local _ .vmem, ⟨2, _⟩ => ⟨S1x32x512, .f32⟩
  | .local _ .vmem, ⟨3, _⟩ => ⟨S1x32x512, .f32⟩
  | .local _ .vmem, ⟨4, _⟩ => ⟨S32x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x512x256, .bf16⟩
  | .local _ .vmem, ⟨9, _⟩ => ⟨S1x512x256, .bf16⟩
  | .local _ .vmem, ⟨10, _⟩ => ⟨S552x256, .f32⟩
  | .local _ .vmem, ⟨11, _⟩ => ⟨S544x256, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefConvIdeal.lean ====
abbrev S8x8192x512 : Shape := ⟨3, ![8, 8192, 512]⟩
abbrev S31x256 : Shape := ⟨2, ![31, 256]⟩
abbrev S256 : Shape := ⟨1, ![256]⟩
abbrev S8x8192x256 : Shape := ⟨3, ![8, 8192, 256]⟩
abbrev S_ : Shape := ⟨0, ![]⟩
abbrev S8x8222x256 : Shape := ⟨3, ![8, 8222, 256]⟩
abbrev S1x256 : Shape := ⟨2, ![1, 256]⟩
abbrev S1x1x256 : Shape := ⟨3, ![1, 1, 256]⟩
abbrev S8x8192 : Shape := ⟨2, ![8, 8192]⟩
abbrev S8x8192x1 : Shape := ⟨3, ![8, 8192, 1]⟩

abbrev nBuf : Space → Nat
  | .hbm => 278
  | .vmem => 0
  | .smem => 0
  | _ => 0

abbrev hbmTy0_0 (i : Nat) : BufTy := match i % 128 with
  | 0 => ⟨S8x8192x512, .f32⟩
  | 1 => ⟨S31x256, .f32⟩
  | 2 => ⟨S256, .f32⟩
  | 3 => ⟨S256, .f32⟩
  | 4 => ⟨S256, .f32⟩
  | 5 => ⟨S8x8192x256, .f32⟩
  | 6 => ⟨S8x8192x256, .f32⟩
  | 7 => ⟨S8x8192x256, .f32⟩
  | 8 => ⟨S8x8192x256, .f32⟩
  | 9 => ⟨S_, .f32⟩
  | 10 => ⟨S8x8192x256, .f32⟩
  | 11 => ⟨S8x8192x256, .f32⟩
  | 12 => ⟨S_, .f32⟩
  | 13 => ⟨S8x8192x256, .f32⟩
  | 14 => ⟨S8x8192x256, .f32⟩
  | 15 => ⟨S8x8192x256, .f32⟩
  | 16 => ⟨S_, .i32⟩
  | 17 => ⟨S_, .f32⟩
  | 18 => ⟨S8x8222x256, .f32⟩
  | 19 => ⟨S8x8192x256, .f32⟩
  | 20 => ⟨S1x256, .f32⟩
  | 21 => ⟨S256, .f32⟩
  | 22 => ⟨S1x1x256, .f32⟩
  | 23 => ⟨S8x8192x256, .f32⟩
  | 24 => ⟨S8x8192x256, .f32⟩
  | 25 => ⟨S_, .f32⟩
  | 26 => ⟨S8x8192x256, .f32⟩
  | 27 => ⟨S8x8192x256, .f32⟩
  | 28 => ⟨S8x8192x256, .f32⟩
  | 29 => ⟨S1x256, .f32⟩
  | 30 => ⟨S256, .f32⟩
  | 31 => ⟨S1x1x256, .f32⟩
  | 32 => ⟨S8x8192x256, .f32⟩
  | 33 => ⟨S8x8192x256, .f32⟩
  | 34 => ⟨S8x8192x256, .f32⟩
  | 35 => ⟨S8x8192x256, .f32⟩
  | 36 => ⟨S1x256, .f32⟩
  | 37 => ⟨S256, .f32⟩
  | 38 => ⟨S1x1x256, .f32⟩
  | 39 => ⟨S8x8192x256, .f32⟩
  | 40 => ⟨S8x8192x256, .f32⟩
  | 41 => ⟨S8x8192x256, .f32⟩
  | 42 => ⟨S8x8192x256, .f32⟩
  | 43 => ⟨S1x256, .f32⟩
  | 44 => ⟨S256, .f32⟩
  | 45 => ⟨S1x1x256, .f32⟩
  | 46 => ⟨S8x8192x256, .f32⟩
  | 47 => ⟨S8x8192x256, .f32⟩
  | 48 => ⟨S8x8192x256, .f32⟩
  | 49 => ⟨S8x8192x256, .f32⟩
  | 50 => ⟨S1x256, .f32⟩
  | 51 => ⟨S256, .f32⟩
  | 52 => ⟨S1x1x256, .f32⟩
  | 53 => ⟨S8x8192x256, .f32⟩
  | 54 => ⟨S8x8192x256, .f32⟩
  | 55 => ⟨S8x8192x256, .f32⟩
  | 56 => ⟨S8x8192x256, .f32⟩
  | 57 => ⟨S1x256, .f32⟩
  | 58 => ⟨S256, .f32⟩
  | 59 => ⟨S1x1x256, .f32⟩
  | 60 => ⟨S8x8192x256, .f32⟩
  | 61 => ⟨S8x8192x256, .f32⟩
  | 62 => ⟨S8x8192x256, .f32⟩
  | 63 => ⟨S8x8192x256, .f32⟩
  | 64 => ⟨S1x256, .f32⟩
  | 65 => ⟨S256, .f32⟩
  | 66 => ⟨S1x1x256, .f32⟩
  | 67 => ⟨S8x8192x256, .f32⟩
  | 68 => ⟨S8x8192x256, .f32⟩
  | 69 => ⟨S8x8192x256, .f32⟩
  | 70 => ⟨S8x8192x256, .f32⟩
  | 71 => ⟨S1x256, .f32⟩
  | 72 => ⟨S256, .f32⟩
  | 73 => ⟨S1x1x256, .f32⟩
  | 74 => ⟨S8x8192x256, .f32⟩
  | 75 => ⟨S8x8192x256, .f32⟩
  | 76 => ⟨S8x8192x256, .f32⟩
  | 77 => ⟨S8x8192x256, .f32⟩
  | 78 => ⟨S1x256, .f32⟩
  | 79 => ⟨S256, .f32⟩
  | 80 => ⟨S1x1x256, .f32⟩
  | 81 => ⟨S8x8192x256, .f32⟩
  | 82 => ⟨S8x8192x256, .f32⟩
  | 83 => ⟨S8x8192x256, .f32⟩
  | 84 => ⟨S8x8192x256, .f32⟩
  | 85 => ⟨S1x256, .f32⟩
  | 86 => ⟨S256, .f32⟩
  | 87 => ⟨S1x1x256, .f32⟩
  | 88 => ⟨S8x8192x256, .f32⟩
  | 89 => ⟨S8x8192x256, .f32⟩
  | 90 => ⟨S8x8192x256, .f32⟩
  | 91 => ⟨S8x8192x256, .f32⟩
  | 92 => ⟨S1x256, .f32⟩
  | 93 => ⟨S256, .f32⟩
  | 94 => ⟨S1x1x256, .f32⟩
  | 95 => ⟨S8x8192x256, .f32⟩
  | 96 => ⟨S8x8192x256, .f32⟩
  | 97 => ⟨S8x8192x256, .f32⟩
  | 98 => ⟨S8x8192x256, .f32⟩
  | 99 => ⟨S1x256, .f32⟩
  | 100 => ⟨S256, .f32⟩
  | 101 => ⟨S1x1x256, .f32⟩
  | 102 => ⟨S8x8192x256, .f32⟩
  | 103 => ⟨S8x8192x256, .f32⟩
  | 104 => ⟨S8x8192x256, .f32⟩
  | 105 => ⟨S8x8192x256, .f32⟩
  | 106 => ⟨S1x256, .f32⟩
  | 107 => ⟨S256, .f32⟩
  | 108 => ⟨S1x1x256, .f32⟩
  | 109 => ⟨S8x8192x256, .f32⟩
  | 110 => ⟨S8x8192x256, .f32⟩
  | 111 => ⟨S8x8192x256, .f32⟩
  | 112 => ⟨S8x8192x256, .f32⟩
  | 113 => ⟨S1x256, .f32⟩
  | 114 => ⟨S256, .f32⟩
  | 115 => ⟨S1x1x256, .f32⟩
  | 116 => ⟨S8x8192x256, .f32⟩
  | 117 => ⟨S8x8192x256, .f32⟩
  | 118 => ⟨S8x8192x256, .f32⟩
  | 119 => ⟨S8x8192x256, .f32⟩
  | 120 => ⟨S1x256, .f32⟩
  | 121 => ⟨S256, .f32⟩
  | 122 => ⟨S1x1x256, .f32⟩
  | 123 => ⟨S8x8192x256, .f32⟩
  | 124 => ⟨S8x8192x256, .f32⟩
  | 125 => ⟨S8x8192x256, .f32⟩
  | 126 => ⟨S8x8192x256, .f32⟩
  | 127 => ⟨S1x256, .f32⟩
  | _ => ⟨S8x8192x512, .f32⟩

abbrev hbmTy0_1 (i : Nat) : BufTy := match i % 128 with
  | 0 => ⟨S256, .f32⟩
  | 1 => ⟨S1x1x256, .f32⟩
  | 2 => ⟨S8x8192x256, .f32⟩
  | 3 => ⟨S8x8192x256, .f32⟩
  | 4 => ⟨S8x8192x256, .f32⟩
  | 5 => ⟨S8x8192x256, .f32⟩
  | 6 => ⟨S1x256, .f32⟩
  | 7 => ⟨S256, .f32⟩
  | 8 => ⟨S1x1x256, .f32⟩
  | 9 => ⟨S8x8192x256, .f32⟩
  | 10 => ⟨S8x8192x256, .f32⟩
  | 11 => ⟨S8x8192x256, .f32⟩
  | 12 => ⟨S8x8192x256, .f32⟩
  | 13 => ⟨S1x256, .f32⟩
  | 14 => ⟨S256, .f32⟩
  | 15 => ⟨S1x1x256, .f32⟩
  | 16 => ⟨S8x8192x256, .f32⟩
  | 17 => ⟨S8x8192x256, .f32⟩
  | 18 => ⟨S8x8192x256, .f32⟩
  | 19 => ⟨S8x8192x256, .f32⟩
  | 20 => ⟨S1x256, .f32⟩
  | 21 => ⟨S256, .f32⟩
  | 22 => ⟨S1x1x256, .f32⟩
  | 23 => ⟨S8x8192x256, .f32⟩
  | 24 => ⟨S8x8192x256, .f32⟩
  | 25 => ⟨S8x8192x256, .f32⟩
  | 26 => ⟨S8x8192x256, .f32⟩
  | 27 => ⟨S1x256, .f32⟩
  | 28 => ⟨S256, .f32⟩
  | 29 => ⟨S1x1x256, .f32⟩
  | 30 => ⟨S8x8192x256, .f32⟩
  | 31 => ⟨S8x8192x256, .f32⟩
  | 32 => ⟨S8x8192x256, .f32⟩
  | 33 => ⟨S8x8192x256, .f32⟩
  | 34 => ⟨S1x256, .f32⟩
  | 35 => ⟨S256, .f32⟩
  | 36 => ⟨S1x1x256, .f32⟩
  | 37 => ⟨S8x8192x256, .f32⟩
  | 38 => ⟨S8x8192x256, .f32⟩
  | 39 => ⟨S8x8192x256, .f32⟩
  | 40 => ⟨S8x8192x256, .f32⟩
  | 41 => ⟨S1x256, .f32⟩
  | 42 => ⟨S256, .f32⟩
  | 43 => ⟨S1x1x256, .f32⟩
  | 44 => ⟨S8x8192x256, .f32⟩
  | 45 => ⟨S8x8192x256, .f32⟩
  | 46 => ⟨S8x8192x256, .f32⟩
  | 47 => ⟨S8x8192x256, .f32⟩
  | 48 => ⟨S1x256, .f32⟩
  | 49 => ⟨S256, .f32⟩
  | 50 => ⟨S1x1x256, .f32⟩
  | 51 => ⟨S8x8192x256, .f32⟩
  | 52 => ⟨S8x8192x256, .f32⟩
  | 53 => ⟨S8x8192x256, .f32⟩
  | 54 => ⟨S8x8192x256, .f32⟩
  | 55 => ⟨S1x256, .f32⟩
  | 56 => ⟨S256, .f32⟩
  | 57 => ⟨S1x1x256, .f32⟩
  | 58 => ⟨S8x8192x256, .f32⟩
  | 59 => ⟨S8x8192x256, .f32⟩
  | 60 => ⟨S8x8192x256, .f32⟩
  | 61 => ⟨S8x8192x256, .f32⟩
  | 62 => ⟨S1x256, .f32⟩
  | 63 => ⟨S256, .f32⟩
  | 64 => ⟨S1x1x256, .f32⟩
  | 65 => ⟨S8x8192x256, .f32⟩
  | 66 => ⟨S8x8192x256, .f32⟩
  | 67 => ⟨S8x8192x256, .f32⟩
  | 68 => ⟨S8x8192x256, .f32⟩
  | 69 => ⟨S1x256, .f32⟩
  | 70 => ⟨S256, .f32⟩
  | 71 => ⟨S1x1x256, .f32⟩
  | 72 => ⟨S8x8192x256, .f32⟩
  | 73 => ⟨S8x8192x256, .f32⟩
  | 74 => ⟨S8x8192x256, .f32⟩
  | 75 => ⟨S8x8192x256, .f32⟩
  | 76 => ⟨S1x256, .f32⟩
  | 77 => ⟨S256, .f32⟩
  | 78 => ⟨S1x1x256, .f32⟩
  | 79 => ⟨S8x8192x256, .f32⟩
  | 80 => ⟨S8x8192x256, .f32⟩
  | 81 => ⟨S8x8192x256, .f32⟩
  | 82 => ⟨S8x8192x256, .f32⟩
  | 83 => ⟨S1x256, .f32⟩
  | 84 => ⟨S256, .f32⟩
  | 85 => ⟨S1x1x256, .f32⟩
  | 86 => ⟨S8x8192x256, .f32⟩
  | 87 => ⟨S8x8192x256, .f32⟩
  | 88 => ⟨S8x8192x256, .f32⟩
  | 89 => ⟨S8x8192x256, .f32⟩
  | 90 => ⟨S1x256, .f32⟩
  | 91 => ⟨S256, .f32⟩
  | 92 => ⟨S1x1x256, .f32⟩
  | 93 => ⟨S8x8192x256, .f32⟩
  | 94 => ⟨S8x8192x256, .f32⟩
  | 95 => ⟨S8x8192x256, .f32⟩
  | 96 => ⟨S8x8192x256, .f32⟩
  | 97 => ⟨S1x256, .f32⟩
  | 98 => ⟨S256, .f32⟩
  | 99 => ⟨S1x1x256, .f32⟩
  | 100 => ⟨S8x8192x256, .f32⟩
  | 101 => ⟨S8x8192x256, .f32⟩
  | 102 => ⟨S8x8192x256, .f32⟩
  | 103 => ⟨S8x8192x256, .f32⟩
  | 104 => ⟨S1x256, .f32⟩
  | 105 => ⟨S256, .f32⟩
  | 106 => ⟨S1x1x256, .f32⟩
  | 107 => ⟨S8x8192x256, .f32⟩
  | 108 => ⟨S8x8192x256, .f32⟩
  | 109 => ⟨S8x8192x256, .f32⟩
  | 110 => ⟨S1x1x256, .f32⟩
  | 111 => ⟨S8x8192x256, .f32⟩
  | 112 => ⟨S8x8192x256, .f32⟩
  | 113 => ⟨S_, .f32⟩
  | 114 => ⟨S8x8192, .f32⟩
  | 115 => ⟨S8x8192x1, .f32⟩
  | 116 => ⟨S_, .f32⟩
  | 117 => ⟨S8x8192x1, .f32⟩
  | 118 => ⟨S8x8192x1, .f32⟩
  | 119 => ⟨S8x8192x256, .f32⟩
  | 120 => ⟨S8x8192x256, .f32⟩
  | 121 => ⟨S8x8192x256, .f32⟩
  | 122 => ⟨S_, .f32⟩
  | 123 => ⟨S8x8192, .f32⟩
  | 124 => ⟨S8x8192x1, .f32⟩
  | 125 => ⟨S_, .f32⟩
  | 126 => ⟨S8x8192x1, .f32⟩
  | 127 => ⟨S8x8192x1, .f32⟩
  | _ => ⟨S8x8192x512, .f32⟩

abbrev hbmTy0_2 (i : Nat) : BufTy := match i % 128 with
  | 0 => ⟨S_, .f32⟩
  | 1 => ⟨S8x8192x1, .f32⟩
  | 2 => ⟨S8x8192x1, .f32⟩
  | 3 => ⟨S8x8192x1, .f32⟩
  | 4 => ⟨S8x8192x256, .f32⟩
  | 5 => ⟨S8x8192x256, .f32⟩
  | 6 => ⟨S1x1x256, .f32⟩
  | 7 => ⟨S8x8192x256, .f32⟩
  | 8 => ⟨S8x8192x256, .f32⟩
  | 9 => ⟨S1x1x256, .f32⟩
  | 10 => ⟨S8x8192x256, .f32⟩
  | 11 => ⟨S8x8192x256, .f32⟩
  | 12 => ⟨S8x8192x256, .f32⟩
  | 13 => ⟨S8x8192x256, .f32⟩
  | 14 => ⟨S_, .f32⟩
  | 15 => ⟨S8x8192x256, .f32⟩
  | 16 => ⟨S8x8192x256, .f32⟩
  | 17 => ⟨S_, .f32⟩
  | 18 => ⟨S8x8192x256, .f32⟩
  | 19 => ⟨S8x8192x256, .f32⟩
  | 20 => ⟨S8x8192x256, .f32⟩
  | 21 => ⟨S8x8192x256, .bf16⟩
  | _ => ⟨S8x8192x512, .f32⟩

abbrev hbmTy (i : Nat) : BufTy := match i / 128 with
  | 0 => hbmTy0_0 i
  | 1 => hbmTy0_1 i
  | 2 => hbmTy0_2 i
  | _ => ⟨S8x8192x512, .f32⟩

abbrev bufTy : (tb : Table) → Fin (tcTables nBuf tb) → BufTy
  | .hbm, ⟨i, _⟩ => hbmTy i
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_cst_2 : Ref sig .tc := ⟨.hbm, 241, rfl⟩
abbrev main_v231 : Ref sig .tc := ⟨.hbm, 242, rfl⟩
abbrev main_v232 : Ref sig .tc := ⟨.hbm, 243, rfl⟩
abbrev main_cst_3 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_cst_4 : Ref sig .tc := ⟨.hbm, 250, rfl⟩
abbrev main_v238 : Ref sig .tc := ⟨.hbm, 251, rfl⟩
abbrev main_v239 : Ref sig .tc := ⟨.hbm, 252, rfl⟩
abbrev main_cst_5 : Ref sig .tc := ⟨.hbm, 253, rfl⟩
abbrev main_v240 : Ref sig .tc := ⟨.hbm, 254, rfl⟩
abbrev main_v241 : Ref sig .tc := ⟨.hbm, 255, rfl⟩
abbrev main_cst_6 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_call1_v0 : Ref sig .tc := ⟨.hbm, 268, rfl⟩
abbrev main_call1_v1 : Ref sig .tc := ⟨.hbm, 269, rfl⟩
abbrev main_call1_cst : Ref sig .tc := ⟨.hbm, 270, rfl⟩
abbrev main_call1_v2 : Ref sig .tc := ⟨.hbm, 271, rfl⟩
abbrev main_call1_v3 : Ref sig .tc := ⟨.hbm, 272, rfl⟩
abbrev main_call1_cst_0 : Ref sig .tc := ⟨.hbm, 273, rfl⟩
abbrev main_call1_v4 : Ref sig .tc := ⟨.hbm, 274, rfl⟩
abbrev main_call1_v5 : Ref sig .tc := ⟨.hbm, 275, rfl⟩
abbrev main_v253 : Ref sig .tc := ⟨.hbm, 276, rfl⟩
abbrev main_v254 : Ref sig .tc := ⟨.hbm, 277, rfl⟩

abbrev nD : Nat := 1
abbrev τ : Topo := Topo.v7x

variable {F : FTy → Type} [FloatOps F]
-- ==== Proj.lean ====
abbrev S8x8192x1024 : Shape := ⟨3, ![8, 8192, 1024]⟩
abbrev S1024 : Shape := ⟨1, ![1024]⟩
abbrev S1024x2600 : Shape := ⟨2, ![1024, 2600]⟩
abbrev S9x128 : Shape := ⟨2, ![9, 128]⟩
abbrev S1024x512 : Shape := ⟨2, ![1024, 512]⟩
abbrev S_ : Shape := ⟨0, ![]⟩
abbrev S1024x128 : Shape := ⟨2, ![1024, 128]⟩
abbrev S1024x256 : Shape := ⟨2, ![1024, 256]⟩
abbrev S1024x1024 : Shape := ⟨2, ![1024, 1024]⟩
abbrev S1024x12 : Shape := ⟨2, ![1024, 12]⟩
abbrev S1024x4 : Shape := ⟨2, ![1024, 4]⟩
abbrev S1024x16 : Shape := ⟨2, ![1024, 16]⟩
abbrev S1024x96 : Shape := ⟨2, ![1024, 96]⟩
abbrev S1024x116 : Shape := ⟨2, ![1024, 116]⟩
abbrev S1024x2560 : Shape := ⟨2, ![1024, 2560]⟩
abbrev S256x1024 : Shape := ⟨2, ![256, 1024]⟩
abbrev S65536x1024 : Shape := ⟨2, ![65536, 1024]⟩
abbrev S1x1024 : Shape := ⟨2, ![1, 1024]⟩
abbrev S8x65536x128 : Shape := ⟨3, ![8, 65536, 128]⟩
abbrev S8x2x256x8192 : Shape := ⟨4, ![8, 2, 256, 8192]⟩
abbrev S8x2x128x8192 : Shape := ⟨4, ![8, 2, 128, 8192]⟩
abbrev S8x2x8192x128 : Shape := ⟨4, ![8, 2, 8192, 128]⟩
abbrev S65536x256 : Shape := ⟨2, ![65536, 256]⟩
abbrev S65536x512 : Shape := ⟨2, ![65536, 512]⟩
abbrev S65536x768 : Shape := ⟨2, ![65536, 768]⟩
abbrev S2x65536x128 : Shape := ⟨3, ![2, 65536, 128]⟩
abbrev S512x1024 : Shape := ⟨2, ![512, 1024]⟩
abbrev S8x512x128 : Shape := ⟨3, ![8, 512, 128]⟩
abbrev S1x2x256x512 : Shape := ⟨4, ![1, 2, 256, 512]⟩
abbrev S1x2x128x512 : Shape := ⟨4, ![1, 2, 128, 512]⟩
abbrev S1x2x512x128 : Shape := ⟨4, ![1, 2, 512, 128]⟩
abbrev S512x256 : Shape := ⟨2, ![512, 256]⟩
abbrev S512x512 : Shape := ⟨2, ![512, 512]⟩
abbrev S512x768 : Shape := ⟨2, ![512, 768]⟩
abbrev S2x512x128 : Shape := ⟨3, ![2, 512, 128]⟩
abbrev S512 : Shape := ⟨1, ![512]⟩
abbrev S512x1 : Shape := ⟨2, ![512, 1]⟩
abbrev S512x128 : Shape := ⟨2, ![512, 128]⟩
abbrev S1x128 : Shape := ⟨2, ![1, 128]⟩
abbrev S1x512x128 : Shape := ⟨3, ![1, 512, 128]⟩
abbrev S1x1x512x128 : Shape := ⟨4, ![1, 1, 512, 128]⟩
abbrev S256x512 : Shape := ⟨2, ![256, 512]⟩
abbrev S64x512 : Shape := ⟨2, ![64, 512]⟩
abbrev S128x512 : Shape := ⟨2, ![128, 512]⟩
abbrev S1x1x64x512 : Shape := ⟨4, ![1, 1, 64, 512]⟩
abbrev S1x1x128x512 : Shape := ⟨4, ![1, 1, 128, 512]⟩
abbrev S1024x768 : Shape := ⟨2, ![1024, 768]⟩
abbrev S8x65536x64 : Shape := ⟨3, ![8, 65536, 64]⟩
abbrev S8x2x64x8192 : Shape := ⟨4, ![8, 2, 64, 8192]⟩
abbrev S8x2x8192x64 : Shape := ⟨4, ![8, 2, 8192, 64]⟩
abbrev S2x65536x12 : Shape := ⟨3, ![2, 65536, 12]⟩
abbrev S1x65536x16 : Shape := ⟨3, ![1, 65536, 16]⟩
abbrev S65536x16 : Shape := ⟨2, ![65536, 16]⟩

abbrev nBuf : Space → Nat
  | .hbm => 48
  | .vmem => 24
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2600, .f32⟩
  | .hbm, ⟨3, _⟩ => ⟨S9x128, .f32⟩
  | .hbm, ⟨4, _⟩ => ⟨S1024x512, .f32⟩
  | .hbm, ⟨5, _⟩ => ⟨S_, .f32⟩
  | .hbm, ⟨6, _⟩ => ⟨S1024x512, .f32⟩
  | .hbm, ⟨7, _⟩ => ⟨S1024x512, .f32⟩
  | .hbm, ⟨8, _⟩ => ⟨S1024x128, .f32⟩
  | .hbm, ⟨9, _⟩ => ⟨S1024x128, .f32⟩
  | .hbm, ⟨10, _⟩ => ⟨S1024x256, .f32⟩
  | .hbm, ⟨11, _⟩ => ⟨S1024x1024, .f32⟩
  | .hbm, ⟨12, _⟩ => ⟨S1024x256, .f32⟩
  | .hbm, ⟨13, _⟩ => ⟨S1024x12, .f32⟩
  | .hbm, ⟨14, _⟩ => ⟨S_, .f32⟩
  | .hbm, ⟨15, _⟩ => ⟨S1024x4, .f32⟩
  | .hbm, ⟨16, _⟩ => ⟨S1024x16, .f32⟩
  | .hbm, ⟨17, _⟩ => ⟨S_, .f32⟩
  | .hbm, ⟨18, _⟩ => ⟨S1024x96, .f32⟩
  | .hbm, ⟨19, _⟩ => ⟨S1024x12, .f32⟩
  | .hbm, ⟨20, _⟩ => ⟨S_, .f32⟩
  | .hbm, ⟨21, _⟩ => ⟨S1024x116, .f32⟩
  | .hbm, ⟨22, _⟩ => ⟨S1024x2560, .f32⟩
  | .hbm, ⟨23, _⟩ => ⟨S1024x2560, .bf16⟩
  | .hbm, ⟨24, _⟩ => ⟨S1024x128, .f32⟩
  | .hbm, ⟨25, _⟩ => ⟨S1024x128, .f32⟩
  | .hbm, ⟨26, _⟩ => ⟨S1024x256, .f32⟩
  | .hbm, ⟨27, _⟩ => ⟨S256x1024, .f32⟩
  | .hbm, ⟨28, _⟩ => ⟨S256x1024, .bf16⟩
  | .hbm, ⟨29, _⟩ => ⟨S65536x1024, .f32⟩
  | .hbm, ⟨30, _⟩ => ⟨S1x1024, .f32⟩
  | .hbm, ⟨31, _⟩ => ⟨S8x65536x128, .bf16⟩
  | .hbm, ⟨32, _⟩ => ⟨S8x2x256x8192, .bf16⟩
  | .hbm, ⟨33, _⟩ => ⟨S8x2x128x8192, .bf16⟩
  | .hbm, ⟨34, _⟩ => ⟨S8x2x8192x128, .bf16⟩
  | .hbm, ⟨35, _⟩ => ⟨S8x2x8192x128, .bf16⟩
  | .hbm, ⟨36, _⟩ => ⟨S65536x256, .f32⟩
  | .hbm, ⟨37, _⟩ => ⟨S65536x512, .f32⟩
  | .hbm, ⟨38, _⟩ => ⟨S65536x768, .f32⟩
  | .hbm, ⟨39, _⟩ => ⟨S2x65536x128, .f32⟩
  | .hbm, ⟨40, _⟩ => ⟨S8x65536x64, .bf16⟩
  | .hbm, ⟨41, _⟩ => ⟨S8x2x64x8192, .bf16⟩
  | .hbm, ⟨42, _⟩ => ⟨S8x2x64x8192, .bf16⟩
  | .hbm, ⟨43, _⟩ => ⟨S8x2x8192x64, .bf16⟩
  | .hbm, ⟨44, _⟩ => ⟨S8x2x8192x64, .bf16⟩
  | .hbm, ⟨45, _⟩ => ⟨S2x65536x12, .f32⟩
  | .hbm, ⟨46, _⟩ => ⟨S1x65536x16, .f32⟩
  | .hbm, ⟨47, _⟩ => ⟨S65536x16, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S256x1024, .bf16⟩
  | .local _ .vmem, ⟨5, _⟩ => ⟨S9x128, .f32⟩
  | .local _ .vmem, ⟨6, _⟩ => ⟨S8x512x128, .bf16⟩
  | .local _ .vmem, ⟨7, _⟩ => ⟨S8x512x128, .bf16⟩
  | .local _ .vmem, ⟨8, _⟩ => ⟨S1x2x256x512, .bf16⟩
  | .local _ .vmem, ⟨9, _⟩ => ⟨S1x2x256x512, .bf16⟩
  | .local _ .vmem, ⟨10, _⟩ => ⟨S1x2x128x512, .bf16⟩
  | .local _ .vmem, ⟨11, _⟩ => ⟨S1x2x128x512, .bf16⟩
  | .local _ .vmem, ⟨12, _⟩ => ⟨S1x2x512x128, .bf16⟩
  | .local _ .vmem, ⟨13, _⟩ => ⟨S1x2x512x128, .bf16⟩
  | .local _ .vmem, ⟨14, _⟩ => ⟨S1x2x512x128, .bf16⟩
  | .local _ .vmem, ⟨15, _⟩ => ⟨S1x2x512x128, .bf16⟩
  | .local _ .vmem, ⟨16, _⟩ => ⟨S512x256, .f32⟩
  | .local _ .vmem, ⟨17, _⟩ => ⟨S512x256, .f32⟩
  | .local _ .vmem, ⟨18, _⟩ => ⟨S512x512, .f32⟩
  | .local _ .vmem, ⟨19, _⟩ => ⟨S512x512, .f32⟩
  | .local _ .vmem, ⟨20, _⟩ => ⟨S512x768, .f32⟩
  | .local _ .vmem, ⟨21, _⟩ => ⟨S512x768, .f32⟩
  | .local _ .vmem, ⟨22, _⟩ => ⟨S2x512x128, .f32⟩
  | .local _ .vmem, ⟨23, _⟩ => ⟨S2x512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev main_v23_4 : Ref sig .tc := ⟨.hbm, 35, rfl⟩
abbrev main_v23_5 : Ref sig .tc := ⟨.hbm, 36, rfl⟩
abbrev main_v23_6 : Ref sig .tc := ⟨.hbm, 37, rfl⟩
abbrev main_v23_7 : Ref sig .tc := ⟨.hbm, 38, rfl⟩
abbrev main_v23_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_7 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_8 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefProjIdeal.lean ====
abbrev S8x8192x1024 : Shape := ⟨3, ![8, 8192, 1024]⟩
abbrev S1024 : Shape := ⟨1, ![1024]⟩
abbrev S1024x2600 : Shape := ⟨2, ![1024, 2600]⟩
abbrev S9x128 : Shape := ⟨2, ![9, 128]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2600 : Shape := ⟨3, ![8, 8192, 2600]⟩
abbrev S8x8192x512 : Shape := ⟨3, ![8, 8192, 512]⟩
abbrev S8x8192x128 : Shape := ⟨3, ![8, 8192, 128]⟩
abbrev S8x8192x24 : Shape := ⟨3, ![8, 8192, 24]⟩
abbrev S8x8192x256 : Shape := ⟨3, ![8, 8192, 256]⟩
abbrev S8x8192x16 : Shape := ⟨3, ![8, 8192, 16]⟩
abbrev S8x8192x8x64 : Shape := ⟨4, ![8, 8192, 8, 64]⟩
abbrev S8x8x8192x64 : Shape := ⟨4, ![8, 8, 8192, 64]⟩
abbrev S8x65536x64 : Shape := ⟨3, ![8, 65536, 64]⟩
abbrev S8x8192x2x64 : Shape := ⟨4, ![8, 8192, 2, 64]⟩
abbrev S8x2x64x8192 : Shape := ⟨4, ![8, 2, 64, 8192]⟩
abbrev S8x2x8192x64 : Shape := ⟨4, ![8, 2, 8192, 64]⟩
abbrev S65536x256 : Shape := ⟨2, ![65536, 256]⟩
abbrev S65536x512 : Shape := ⟨2, ![65536, 512]⟩
abbrev S8x8192x768 : Shape := ⟨3, ![8, 8192, 768]⟩
abbrev S65536x768 : Shape := ⟨2, ![65536, 768]⟩
abbrev S65536x2x12 : Shape := ⟨3, ![65536, 2, 12]⟩
abbrev S2x65536x12 : Shape := ⟨3, ![2, 65536, 12]⟩
abbrev S65536x16 : Shape := ⟨2, ![65536, 16]⟩

abbrev nBuf : Space → Nat
  | .hbm => 62
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2600, .f32⟩
  | .hbm, ⟨3, _⟩ => ⟨S9x128, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S8x8192x2600, .f32⟩
  | .hbm, ⟨21, _⟩ => ⟨S8x8192x512, .f32⟩
  | .hbm, ⟨22, _⟩ => ⟨S8x8192x128, .f32⟩
  | .hbm, ⟨23, _⟩ => ⟨S8x8192x128, .f32⟩
  | .hbm, ⟨24, _⟩ => ⟨S8x8192x128, .f32⟩
  | .hbm, ⟨25, _⟩ => ⟨S8x8192x128, .f32⟩
  | .hbm, ⟨26, _⟩ => ⟨S8x8192x128, .f32⟩
  | .hbm, ⟨27, _⟩ => ⟨S8x8192x128, .f32⟩
  | .hbm, ⟨28, _⟩ => ⟨S8x8192x24, .f32⟩
  | .hbm, ⟨29, _⟩ => ⟨S8x8192x512, .f32⟩
  | .hbm, ⟨30, _⟩ => ⟨S8x8192x128, .f32⟩
  | .hbm, ⟨31, _⟩ => ⟨S8x8192x128, .f32⟩
  | .hbm, ⟨32, _⟩ => ⟨S8x8192x256, .f32⟩
  | .hbm, ⟨33, _⟩ => ⟨S8x8192x16, .f32⟩
  | .hbm, ⟨34, _⟩ => ⟨S8x8192x256, .f32⟩
  | .hbm, ⟨35, _⟩ => ⟨S8x8192x8x64, .f32⟩
  | .hbm, ⟨36, _⟩ => ⟨S_, .f32⟩
  | .hbm, ⟨37, _⟩ => ⟨S8x8192x8x64, .f32⟩
  | .hbm, ⟨38, _⟩ => ⟨S8x8192x8x64, .f32⟩
  | .hbm, ⟨39, _⟩ => ⟨S8x8x8192x64, .f32⟩
  | .hbm, ⟨40, _⟩ => ⟨S8x65536x64, .f32⟩
  | .hbm, ⟨41, _⟩ => ⟨S8x65536x64, .bf16⟩
  | .hbm, ⟨42, _⟩ => ⟨S8x8192x2x64, .f32⟩
  | .hbm, ⟨43, _⟩ => ⟨S8x2x64x8192, .f32⟩
  | .hbm, ⟨44, _⟩ => ⟨S8x2x64x8192, .bf16⟩
  | .hbm, ⟨45, _⟩ => ⟨S8x8192x2x64, .f32⟩
  | .hbm, ⟨46, _⟩ => ⟨S8x2x64x8192, .f32⟩
  | .hbm, ⟨47, _⟩ => ⟨S8x2x64x8192, .bf16⟩
  | .hbm, ⟨48, _⟩ => ⟨S8x8192x2x64, .f32⟩
  | .hbm, ⟨49, _⟩ => ⟨S8x2x8192x64, .f32⟩
  | .hbm, ⟨50, _⟩ => ⟨S8x2x8192x64, .bf16⟩
  | .hbm, ⟨51, _⟩ => ⟨S8x8192x2x64, .f32⟩
  | .hbm, ⟨52, _⟩ => ⟨S8x2x8192x64, .f32⟩
  | .hbm, ⟨53, _⟩ => ⟨S8x2x8192x64, .bf16⟩
  | .hbm, ⟨54, _⟩ => ⟨S8x8192x256, .f32⟩
  | .hbm, ⟨55, _⟩ => ⟨S65536x256, .f32⟩
  | .hbm, ⟨56, _⟩ => ⟨S65536x512, .f32⟩
  | .hbm, ⟨57, _⟩ => ⟨S8x8192x768, .f32⟩
  | .hbm, ⟨58, _⟩ => ⟨S65536x768, .f32⟩
  | .hbm, ⟨59, _⟩ => ⟨S65536x2x12, .f32⟩
  | .hbm, ⟨60, _⟩ => ⟨S2x65536x12, .f32⟩
  | .hbm, ⟨61, _⟩ => ⟨S65536x16, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩

abbrev nD : Nat := 1
abbrev τ : Topo := Topo.v7x

variable {F : FTy → Type} [FloatOps F]
-- ==== Cmp.lean ====
abbrev S8x8192x128 : Shape := ⟨3, ![8, 8192, 128]⟩
abbrev S32x64 : Shape := ⟨2, ![32, 64]⟩
abbrev S2048x256 : Shape := ⟨2, ![2048, 256]⟩
abbrev S256 : Shape := ⟨1, ![256]⟩
abbrev S256x64 : Shape := ⟨2, ![256, 64]⟩
abbrev S8x8192x256 : Shape := ⟨3, ![8, 8192, 256]⟩
abbrev S32x128 : Shape := ⟨2, ![32, 128]⟩
abbrev S1x32x128 : Shape := ⟨3, ![1, 32, 128]⟩
abbrev S2x32x128 : Shape := ⟨3, ![2, 32, 128]⟩
abbrev S32x64x256 : Shape := ⟨3, ![32, 64, 256]⟩
abbrev S_ : Shape := ⟨0, ![]⟩
abbrev S32x64x512 : Shape := ⟨3, ![32, 64, 512]⟩
abbrev S32x128x512 : Shape := ⟨3, ![32, 128, 512]⟩
abbrev S1x32x128x512 : Shape := ⟨4, ![1, 32, 128, 512]⟩
abbrev S2x32x128x512 : Shape := ⟨4, ![2, 32, 128, 512]⟩
abbrev S512 : Shape := ⟨1, ![512]⟩
abbrev S1x512 : Shape := ⟨2, ![1, 512]⟩
abbrev S1x1x512 : Shape := ⟨3, ![1, 1, 512]⟩
abbrev S2x1x512 : Shape := ⟨3, ![2, 1, 512]⟩
abbrev S256x128 : Shape := ⟨2, ![256, 128]⟩
abbrev S512x128 : Shape := ⟨2, ![512, 128]⟩
abbrev S1x512x128 : Shape := ⟨3, ![1, 512, 128]⟩
abbrev S2x512x128 : Shape := ⟨3, ![2, 512, 128]⟩
abbrev S2x8x512x128 : Shape := ⟨4, ![2, 8, 512, 128]⟩
abbrev S1x8192x128 : Shape := ⟨3, ![1, 8192, 128]⟩
abbrev S1x1x512x128 : Shape := ⟨4, ![1, 1, 512, 128]⟩
abbrev S1x1x128 : Shape := ⟨3, ![1, 1, 128]⟩
abbrev S1x128 : Shape := ⟨2, ![1, 128]⟩
abbrev S1x1x128x512 : Shape := ⟨4, ![1, 1, 128, 512]⟩
abbrev S128x512 : Shape := ⟨2, ![128, 512]⟩
abbrev S512x512 : Shape := ⟨2, ![512, 512]⟩
abbrev S2x8x511x128 : Shape := ⟨4, ![2, 8, 511, 128]⟩
abbrev S2x8x511x2x64 : Shape := ⟨5, ![2, 8, 511, 2, 64]⟩
abbrev S1x8x511x2x64 : Shape := ⟨5, ![1, 8, 511, 2, 64]⟩
abbrev S8x511x2x64 : Shape := ⟨4, ![8, 511, 2, 64]⟩

abbrev nBuf : Space → Nat
  | .hbm => 60
  | .vmem => 12
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S32x64, .f32⟩
  | .hbm, ⟨3, _⟩ => ⟨S2048x256, .f32⟩
  | .hbm, ⟨4, _⟩ => ⟨S256, .f32⟩
  | .hbm, ⟨5, _⟩ => ⟨S256x64, .f32⟩
  | .hbm, ⟨6, _⟩ => ⟨S32x64, .f32⟩
  | .hbm, ⟨7, _⟩ => ⟨S2048x256, .f32⟩
  | .hbm, ⟨8, _⟩ => ⟨S256, .f32⟩
  | .hbm, ⟨9, _⟩ => ⟨S256x64, .f32⟩
  | .hbm, ⟨10, _⟩ => ⟨S8x8192x256, .f32⟩
  | .hbm, ⟨11, _⟩ => ⟨S32x128, .f32⟩
  | .hbm, ⟨12, _⟩ => ⟨S32x128, .f32⟩
  | .hbm, ⟨13, _⟩ => ⟨S1x32x128, .f32⟩
  | .hbm, ⟨14, _⟩ => ⟨S1x32x128, .f32⟩
  | .hbm, ⟨15, _⟩ => ⟨S2x32x128, .f32⟩
  | .hbm, ⟨16, _⟩ => ⟨S32x64x256, .f32⟩
  | .hbm, ⟨17, _⟩ => ⟨S_, .f32⟩
  | .hbm, ⟨18, _⟩ => ⟨S32x64x256, .f32⟩
  | .hbm, ⟨19, _⟩ => ⟨S32x64x512, .f32⟩
  | .hbm, ⟨20, _⟩ => ⟨S32x64x512, .f32⟩
  | .hbm, ⟨21, _⟩ => ⟨S32x128x512, .f32⟩
  | .hbm, ⟨22, _⟩ => ⟨S32x64x256, .f32⟩
  | .hbm, ⟨23, _⟩ => ⟨S_, .f32⟩
  | .hbm, ⟨24, _⟩ => ⟨S32x64x256, .f32⟩
  | .hbm, ⟨25, _⟩ => ⟨S32x64x512, .f32⟩
  | .hbm, ⟨26, _⟩ => ⟨S32x64x512, .f32⟩
  | .hbm, ⟨27, _⟩ => ⟨S32x128x512, .f32⟩
  | .hbm, ⟨28, _⟩ => ⟨S1x32x128x512, .f32⟩
  | .hbm, ⟨29, _⟩ => ⟨S1x32x128x512, .f32⟩
  | .hbm, ⟨30, _⟩ => ⟨S2x32x128x512, .f32⟩
  | .hbm, ⟨31, _⟩ => ⟨S2x32x128x512, .bf16⟩
  | .hbm, ⟨32, _⟩ => ⟨S512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S1x1x512, .f32⟩
  | .hbm, ⟨37, _⟩ => ⟨S1x1x512, .f32⟩
  | .hbm, ⟨38, _⟩ => ⟨S2x1x512, .f32⟩
  | .hbm, ⟨39, _⟩ => ⟨S_, .f32⟩
  | .hbm, ⟨40, _⟩ => ⟨S256x64, .f32⟩
  | .hbm, ⟨41, _⟩ => ⟨S256x128, .f32⟩
  | .hbm, ⟨42, _⟩ => ⟨S256x128, .f32⟩
  | .hbm, ⟨43, _⟩ => ⟨S512x128, .f32⟩
  | .hbm, ⟨44, _⟩ => ⟨S_, .f32⟩
  | .hbm, ⟨45, _⟩ => ⟨S256x64, .f32⟩
  | .hbm, ⟨46, _⟩ => ⟨S256x128, .f32⟩
  | .hbm, ⟨47, _⟩ => ⟨S256x128, .f32⟩
  | .hbm, ⟨48, _⟩ => ⟨S512x128, .f32⟩
  | .hbm, ⟨49, _⟩ => ⟨S1x512x128, .f32⟩
  | .hbm, ⟨50, _⟩ => ⟨S1x512x128, .f32⟩
  | .hbm, ⟨51, _⟩ => ⟨S2x512x128, .f32⟩
  | .hbm, ⟨52, _⟩ => ⟨S2x512x128, .bf16⟩
  | .hbm, ⟨53, _⟩ => ⟨S2x8x512x128, .bf16⟩
  | .hbm, ⟨54, _⟩ => ⟨S2x8x511x128, .bf16⟩
  | .hbm, ⟨55, _⟩ => ⟨S2x8x511x2x64, .bf16⟩
  | .hbm, ⟨56, _⟩ => ⟨S1x8x511x2x64, .bf16⟩
  | .hbm, ⟨57, _⟩ => ⟨S8x511x2x64, .bf16⟩
  | .hbm, ⟨58, _⟩ => ⟨S1x8x511x2x64, .bf16⟩
  | .hbm, ⟨59, _⟩ => ⟨S8x511x2x64, .bf16⟩
  | .local _ .vmem, ⟨0, _⟩ => ⟨S1x8192x128, .f32⟩
  | .local _ .vmem, ⟨1, _⟩ => ⟨S1x8192x128, .f32⟩
  | .local _ .vmem, ⟨2, _⟩ => ⟨S1x32x128, .f32⟩
  | .local _ .vmem, ⟨3, _⟩ => ⟨S1x32x128, .f32⟩
  | .local _ .vmem, ⟨4, _⟩ => ⟨S1x32x128x512, .bf16⟩
  | .local _ .vmem, ⟨5, _⟩ => ⟨S1x32x128x512, .bf16⟩
  | .local _ .vmem, ⟨6, _⟩ => ⟨S1x1x512, .f32⟩
  | .local _ .vmem, ⟨7, _⟩ => ⟨S1x1x512, .f32⟩
  | .local _ .vmem, ⟨8, _⟩ => ⟨S1x512x128, .bf16⟩
  | .local _ .vmem, ⟨9, _⟩ => ⟨S1x512x128, .bf16⟩
  | .local _ .vmem, ⟨10, _⟩ => ⟨S1x1x512x128, .bf16⟩
  | .local _ .vmem, ⟨11, _⟩ => ⟨S1x1x512x128, .bf16⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefCmpIdeal.lean ====
abbrev S8x8192x128 : Shape := ⟨3, ![8, 8192, 128]⟩
abbrev S32x64 : Shape := ⟨2, ![32, 64]⟩
abbrev S2048x256 : Shape := ⟨2, ![2048, 256]⟩
abbrev S256 : Shape := ⟨1, ![256]⟩
abbrev S256x64 : Shape := ⟨2, ![256, 64]⟩
abbrev S8x8192x2x64 : Shape := ⟨4, ![8, 8192, 2, 64]⟩
abbrev S8x512x16x2x64 : Shape := ⟨5, ![8, 512, 16, 2, 64]⟩
abbrev S8x511x16x2x64 : Shape := ⟨5, ![8, 511, 16, 2, 64]⟩
abbrev S8x511x32x2x64 : Shape := ⟨5, ![8, 511, 32, 2, 64]⟩
abbrev S1x1x32x1x64 : Shape := ⟨5, ![1, 1, 32, 1, 64]⟩
abbrev S8x511x2x32x64 : Shape := ⟨5, ![8, 511, 2, 32, 64]⟩
abbrev S8x511x2x2048 : Shape := ⟨4, ![8, 511, 2, 2048]⟩
abbrev S8x511x2x256 : Shape := ⟨4, ![8, 511, 2, 256]⟩
abbrev S1x1x1x256 : Shape := ⟨4, ![1, 1, 1, 256]⟩
abbrev S_ : Shape := ⟨0, ![]⟩
abbrev S8x511x2x64 : Shape := ⟨4, ![8, 511, 2, 64]⟩

abbrev nBuf : Space → Nat
  | .hbm => 60
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S32x64, .f32⟩
  | .hbm, ⟨3, _⟩ => ⟨S2048x256, .f32⟩
  | .hbm, ⟨4, _⟩ => ⟨S256, .f32⟩
  | .hbm, ⟨5, _⟩ => ⟨S256x64, .f32⟩
  | .hbm, ⟨6, _⟩ => ⟨S32x64, .f32⟩
  | .hbm, ⟨7, _⟩ => ⟨S2048x256, .f32⟩
  | .hbm, ⟨8, _⟩ => ⟨S256, .f32⟩
  | .hbm, ⟨9, _⟩ => ⟨S256x64, .f32⟩
  | .hbm, ⟨10, _⟩ => ⟨S8x8192x2x64, .f32⟩
  | .hbm, ⟨11, _⟩ => ⟨S8x512x16x2x64, .f32⟩
  | .hbm, ⟨12, _⟩ => ⟨S8x511x16x2x64, .f32⟩
  | .hbm, ⟨13, _⟩ => ⟨S8x511x16x2x64, .f32⟩
  | .hbm, ⟨14, _⟩ => ⟨S8x511x32x2x64, .f32⟩
  | .hbm, ⟨15, _⟩ => ⟨S1x1x32x1x64, .f32⟩
  | .hbm, ⟨16, _⟩ => ⟨S8x511x32x2x64, .f32⟩
  | .hbm, ⟨17, _⟩ => ⟨S8x511x32x2x64, .f32⟩
  | .hbm, ⟨18, _⟩ => ⟨S8x511x2x32x64, .f32⟩
  | .hbm, ⟨19, _⟩ => ⟨S8x511x2x2048, .f32⟩
  | .hbm, ⟨20, _⟩ => ⟨S8x511x2x256, .f32⟩
  | .hbm, ⟨21, _⟩ => ⟨S1x1x1x256, .f32⟩
  | .hbm, ⟨22, _⟩ => ⟨S8x511x2x256, .f32⟩
  | .hbm, ⟨23, _⟩ => ⟨S8x511x2x256, .f32⟩
  | .hbm, ⟨24, _⟩ => ⟨S8x511x2x256, .f32⟩
  | .hbm, ⟨25, _⟩ => ⟨S8x511x2x256, .f32⟩
  | .hbm, ⟨26, _⟩ => ⟨S_, .f32⟩
  | .hbm, ⟨27, _⟩ => ⟨S8x511x2x256, .f32⟩
  | .hbm, ⟨28, _⟩ => ⟨S8x511x2x256, .f32⟩
  | .hbm, ⟨29, _⟩ => ⟨S_, .f32⟩
  | .hbm, ⟨30, _⟩ => ⟨S8x511x2x256, .f32⟩
  | .hbm, ⟨31, _⟩ => ⟨S8x511x2x256, .f32⟩
  | .hbm, ⟨32, _⟩ => ⟨S8x511x2x256, .f32⟩
  | .hbm, ⟨33, _⟩ => ⟨S8x511x2x64, .f32⟩
  | .hbm, ⟨34, _⟩ => ⟨S8x8192x2x64, .f32⟩
  | .hbm, ⟨35, _⟩ => ⟨S8x512x16x2x64, .f32⟩
  | .hbm, ⟨36, _⟩ => ⟨S8x511x16x2x64, .f32⟩
  | .hbm, ⟨37, _⟩ => ⟨S8x511x16x2x64, .f32⟩
  | .hbm, ⟨38, _⟩ => ⟨S8x511x32x2x64, .f32⟩
  | .hbm, ⟨39, _⟩ => ⟨S1x1x32x1x64, .f32⟩
  | .hbm, ⟨40, _⟩ => ⟨S8x511x32x2x64, .f32⟩
  | .hbm, ⟨41, _⟩ => ⟨S8x511x32x2x64, .f32⟩
  | .hbm, ⟨42, _⟩ => ⟨S8x511x2x32x64, .f32⟩
  | .hbm, ⟨43, _⟩ => ⟨S8x511x2x2048, .f32⟩
  | .hbm, ⟨44, _⟩ => ⟨S8x511x2x256, .f32⟩
  | .hbm, ⟨45, _⟩ => ⟨S1x1x1x256, .f32⟩
  | .hbm, ⟨46, _⟩ => ⟨S8x511x2x256, .f32⟩
  | .hbm, ⟨47, _⟩ => ⟨S8x511x2x256, .f32⟩
  | .hbm, ⟨48, _⟩ => ⟨S8x511x2x256, .f32⟩
  | .hbm, ⟨49, _⟩ => ⟨S8x511x2x256, .f32⟩
  | .hbm, ⟨50, _⟩ => ⟨S_, .f32⟩
  | .hbm, ⟨51, _⟩ => ⟨S8x511x2x256, .f32⟩
  | .hbm, ⟨52, _⟩ => ⟨S8x511x2x256, .f32⟩
  | .hbm, ⟨53, _⟩ => ⟨S_, .f32⟩
  | .hbm, ⟨54, _⟩ => ⟨S8x511x2x256, .f32⟩
  | .hbm, ⟨55, _⟩ => ⟨S8x511x2x256, .f32⟩
  | .hbm, ⟨56, _⟩ => ⟨S8x511x2x256, .f32⟩
  | .hbm, ⟨57, _⟩ => ⟨S8x511x2x64, .f32⟩
  | .hbm, ⟨58, _⟩ => ⟨S8x511x2x64, .bf16⟩
  | .hbm, ⟨59, _⟩ => ⟨S8x511x2x64, .bf16⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩

abbrev nD : Nat := 1
abbrev τ : Topo := Topo.v7x

variable {F : FTy → Type} [FloatOps F]
-- ==== Proof.PostRows.lean ====
/- The row mathematics of the layer's last call, and each stage of the kernel's body as it: the mixers' outputs
   projected and added to the residual stream, the gated feed-forward, the gated per-layer embedding, the last norm.
   Every stage works token by token, so it is stated as a function of one token's row. -/
module

public import proofs.«01_k».proof.Proof.Gen.PostIdeal.Frame
public import Idealize.ShloMosaic.Lib.Pipeline.ValueKit
public import Idealize.ShloMosaic.Lib.Pointwise

@[expose] public section

set_option maxRecDepth 16384

noncomputable section

namespace Cert.PostRows

open Idealize.ShloMosaic

/-- `x * rsqrt(mean(x * x) + eps) * g` of one row of 1024 numbers, at lane `l`. -/
def rms (x g : Fin 1024 → EReal) (l : Fin 1024) : EReal :=
  x l * Ideal.rsqrt (Ideal.div (∑ k, x k * x k) (Ideal.ofBits .f32 0x44800000#32) + Ideal.ofBits .f32 0x358637BD#32) * g l

/-- The residual stream plus the three mixers' outputs, side by side, projected by `w`. -/
def mix (x : Fin 1024 → EReal) (yn : Fin 512 → EReal) (yc yg : Fin 256 → EReal) (w : Fin 1024 → Fin 1024 → EReal)
    (l : Fin 1024) : EReal :=
  x l + ((∑ k : Fin 512, yn k * w ⟨k, by omega⟩ l + ∑ k : Fin 256, yc k * w ⟨512 + k, by omega⟩ l)
    + ∑ k : Fin 256, yg k * w ⟨768 + k, by omega⟩ l)

/-- The logistic function as the layer writes it. -/
def sigm (z : EReal) : EReal := Ideal.div 1 (1 + Ideal.exp (-z))

/-- The residual stream `x` plus the gated feed-forward of the normed row `h`. -/
def ffn (x h : Fin 1024 → EReal) (wg wu : Fin 1024 → Fin 2816 → EReal) (wd : Fin 2816 → Fin 1024 → EReal)
    (l : Fin 1024) : EReal :=
  x l + ∑ q, (∑ k, h k * wg k q) * sigm (∑ k, h k * wg k q) * (∑ k, h k * wu k q) * wd q l

/-- The residual stream `x` plus the per-layer embedding `p`, projected and gated by the normed row `h`. -/
def emb (x h : Fin 1024 → EReal) (p : Fin 256 → EReal) (wpg : Fin 1024 → Fin 1024 → EReal) (wpp : Fin 256 → Fin 1024 → EReal)
    (l : Fin 1024) : EReal :=
  x l + (∑ k, p k * wpp k l) * sigm (∑ k, h k * wpg k l)

/-- The whole call on one token's row. -/
def post (x : Fin 1024 → EReal) (yn : Fin 512 → EReal) (yc yg : Fin 256 → EReal) (p : Fin 256 → EReal) (w : Fin 1024 → Fin 1024 → EReal)
    (g : Fin 1024 → EReal) (wg wu : Fin 1024 → Fin 2816 → EReal) (wd : Fin 2816 → Fin 1024 → EReal) (pg : Fin 1024 → EReal)
    (wpg : Fin 1024 → Fin 1024 → EReal) (wpp : Fin 256 → Fin 1024 → EReal) (fg : Fin 1024 → EReal) : Fin 1024 → EReal :=
  let x1 := mix x yn yc yg w
  let x2 := ffn x1 (rms x1 g) wg wu wd
  rms (emb x2 (rms x2 pg) p wpg wpp) fg

end Cert.PostRows

namespace Cert.PostIdeal.Body
open Cert.PostIdeal Cert.PostIdeal.Gen Idealize.ShloMosaic Cert.PostRows

/-- The mixing stage of the body, at row `r`: `mix` of that row, the three row pieces of the weight given apart. -/
theorem pay2_at (v0 : Vec Ideal S512x512 .bf16) (v2 : Vec Ideal S512x1024 .bf16) (v5 : Vec Ideal S512x256 .bf16) (v7 : Vec Ideal S256x1024 .bf16)
    (v11 : Vec Ideal S512x256 .bf16) (v13 : Vec Ideal S256x1024 .bf16) (v17 : Vec Ideal S512x1024 .f32) (w : Fin 1024 → Fin 1024 → EReal)
    (h2 : ∀ k l, v2 (ix2 k l) = w ⟨k, by omega⟩ l) (h7 : ∀ k l, v7 (ix2 k l) = w ⟨512 + k, by omega⟩ l)
    (h13 : ∀ k l, v13 (ix2 k l) = w ⟨768 + k, by omega⟩ l) (r : Fin 512) (l : Fin 1024) :
    k0_pay2 v0 v2 v5 v7 v11 v13 v17 (ix2 r l) = mix (fun k => v17 (ix2 r k)) (fun k => v0 (ix2 r k)) (fun k => v5 (ix2 r k))
      (fun k => v11 (ix2 r k)) w l := by
  pointwise [k0_pay2]
  simp only [h2, h7, h13, mix]

/-- The first norm of the body, at row `r`. -/
theorem pay3_at (v0 : Vec Ideal S512x512 .bf16) (v2 : Vec Ideal S512x1024 .bf16) (v5 : Vec Ideal S512x256 .bf16) (v7 : Vec Ideal S256x1024 .bf16)
    (v11 : Vec Ideal S512x256 .bf16) (v13 : Vec Ideal S256x1024 .bf16) (v17 : Vec Ideal S512x1024 .f32) (v20 : Vec Ideal S1x1024 .f32)
    (r : Fin 512) (l : Fin 1024) :
    k0_pay3 v0 v2 v5 v7 v11 v13 v17 v20 (ix2 r l)
      = rms (fun k => k0_pay2 v0 v2 v5 v7 v11 v13 v17 (ix2 r k)) (fun k => v20 (ix2 0 k)) l := by
  unfold k0_pay3
  generalize k0_pay2 v0 v2 v5 v7 v11 v13 v17 = X
  pointwise [rms]

/-- The feed-forward stage of the body, at row `r`. -/
theorem pay4_at (v19 : FVec Ideal S512x1024 .f32) (v34 : FVec Ideal S512x1024 .bf16) (v35 v46 : Vec Ideal S1024x2816 .bf16)
    (v51 : Vec Ideal S2816x1024 .bf16) (r : Fin 512) (l : Fin 1024) :
    k0_pay4 v19 v34 v35 v46 v51 (ix2 r l)
      = ffn (fun k => v19 (ix2 r k)) (fun k => v34 (ix2 r k)) (fun k q => v35 (ix2 k q)) (fun k q => v46 (ix2 k q)) (fun q k => v51 (ix2 q k)) l := by
  pointwise [k0_pay4]
  simp only [zero_sub, ffn, sigm]

/-- The exponential in the embedding's gate, at row `r`. -/
theorem pay5_at (v19 : FVec Ideal S512x1024 .f32) (v34 : FVec Ideal S512x1024 .bf16) (v35 v46 : Vec Ideal S1024x2816 .bf16)
    (v51 : Vec Ideal S2816x1024 .bf16) (v55 : Vec Ideal S1x1024 .f32) (v70 : Vec Ideal S1024x1024 .bf16) (r : Fin 512) (l : Fin 1024) :
    k0_pay5 v19 v34 v35 v46 v51 v55 v70 (ix2 r l)
      = Ideal.exp (-∑ k, rms (fun k => k0_pay4 v19 v34 v35 v46 v51 (ix2 r k)) (fun k => v55 (ix2 0 k)) k * v70 (ix2 k l)) := by
  unfold k0_pay5
  generalize k0_pay4 v19 v34 v35 v46 v51 = X
  pointwise []
  simp only [zero_sub, rms]

/-- The embedding stage and the last norm of the body, at row `r`. -/
theorem pay1_at (v54 v75 : FVec Ideal S512x1024 .f32) (v80 : Vec Ideal S1x512x256 .f32) (v83 : Vec Ideal S256x1024 .bf16) (v88 : Vec Ideal S1x1024 .f32)
    (h : Fin 1024 → EReal) (wpg : Fin 1024 → Fin 1024 → EReal) (r : Fin 512)
    (h75 : ∀ l, v75 (ix2 r l) = Ideal.exp (-∑ k, h k * wpg k l)) (l : Fin 1024) :
    k0_pay1 v54 v75 v80 v83 v88 (ix2 r l)
      = rms (emb (fun k => v54 (ix2 r k)) h (fun k => v80 (ix3 0 r k)) wpg (fun k l => v83 (ix2 k l))) (fun k => v88 (ix2 0 k)) l := by
  pointwise [k0_pay1]
  simp only [h75, rms, emb, sigm]

/-- What the body leaves of one grid point's blocks, at row `r`: `post` of that row. -/
theorem out_at (x0 : Vec Ideal S512x1024 .f32) (x1 : Vec Ideal S512x512 .bf16) (x2 x3 : Vec Ideal S512x256 .bf16) (x4 : Vec Ideal S1x512x256 .f32)
    (x5 : Vec Ideal S1024x1024 .bf16) (x6 : Vec Ideal S1x1024 .f32) (x7 x8 : Vec Ideal S1024x2816 .bf16) (x9 : Vec Ideal S2816x1024 .bf16)
    (x10 : Vec Ideal S1x1024 .f32) (x11 : Vec Ideal S1024x1024 .bf16) (x12 : Vec Ideal S256x1024 .bf16) (x13 : Vec Ideal S1x1024 .f32)
    (r : Fin 512) (l : Fin 1024) :
    out0_14 x0 x1 x2 x3 x4 x5 x6 x7 x8 x9 x10 x11 x12 x13 (ix2 r l)
      = post (fun k => x0 (ix2 r k)) (fun k => x1 (ix2 r k)) (fun k => x2 (ix2 r k)) (fun k => x3 (ix2 r k)) (fun k => x4 (ix3 0 r k))
          (fun k l => x5 (ix2 k l)) (fun k => x6 (ix2 0 k)) (fun k l => x7 (ix2 k l)) (fun k l => x8 (ix2 k l)) (fun k l => x9 (ix2 k l))
          (fun k => x10 (ix2 0 k)) (fun k l => x11 (ix2 k l)) (fun k l => x12 (ix2 k l)) (fun k => x13 (ix2 0 k)) l := by
  frame_out
  rw [pay1_at _ _ _ _ _ (rms (fun k => k0_pay4 (k0_pay6 x0 x1 x2 x3 x4 x5 x6 x7 x8 x9 x10 x11 x12 x13)
        (k0_pay7 x0 x1 x2 x3 x4 x5 x6 x7 x8 x9 x10 x11 x12 x13) x7 x8 x9 (ix2 r k)) fun k => x10 (ix2 0 k)) (fun k l => x11 (ix2 k l)) r
      fun l => pay5_at ..]
  simp only [pay4_at]
  unfold k0_pay6 k0_pay7
  simp only [pay3_at]
  have h2 := pay2_at (View.ld x1 r0_0) (View.ld x5 r0_1) (View.ld x2 r0_2) (View.ld x5 r0_3) (View.ld x3 r0_2) (View.ld x5 r0_4)
    (View.ld x0 r0_5) (fun k l => x5 (ix2 k l)) (fun k l => by pointwise [r0_1]) (fun k l => by pointwise [r0_3]) (fun k l => by pointwise [r0_4])
  simp only [h2]
  pointwise [r0_0, r0_2, r0_5, r0_6]
  rfl
end Cert.PostIdeal.Body
end
-- ==== Proof.PostValue.lean ====
/- The result array of the layer's last call after the kernel's run: row `i` of it is `post` of token `i`. -/
module

public import proofs.«01_k».proof.Proof.PostRows

@[expose] public section

set_option maxRecDepth 16384

noncomputable section

namespace Cert.PostIdeal.Final
open Cert.PostIdeal Cert.PostIdeal.Gen Idealize.ShloMosaic Idealize.ShloMosaic.TcCoe Idealize.SL.Sem Cert.PostRows

variable (m : (ℓ : Loc nD τ sig) → Buf (Elt Ideal) ℓ)

/-- Every window's block at every grid point: the token windows move with the point, the weights are whole. -/
theorem idx : ∀ t : Fin cfg0.N, win0_0.index t = ![t.val, 0] ∧ win0_1.index t = ![t.val, 0] ∧ win0_2.index t = ![t.val, 0]
    ∧ win0_3.index t = ![t.val, 0] ∧ win0_4.index t = ![1, t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0] :=
  (by decide +kernel : ∀ t : Fin grid0.N, _)

variable (c : Dev nD)

abbrev x : Vec Ideal S8x8192x1024 .f32 := m ((c : Thread nD τ).loc main_arg0)
abbrev yn : Vec Ideal S8x8192x512 .f32 := m ((c : Thread nD τ).loc main_arg1)
abbrev yc : Vec Ideal S8x8192x256 .f32 := m ((c : Thread nD τ).loc main_arg2)
abbrev yg : Vec Ideal S8x8192x256 .f32 := m ((c : Thread nD τ).loc main_arg3)
abbrev ple : Vec Ideal S2x8x8192x256 .f32 := m ((c : Thread nD τ).loc main_arg4)
abbrev w : Vec Ideal S1024x1024 .f32 := m ((c : Thread nD τ).loc main_arg5)
abbrev ffg : Vec Ideal S1024 .f32 := m ((c : Thread nD τ).loc main_arg6)
abbrev wg : Vec Ideal S1024x2816 .f32 := m ((c : Thread nD τ).loc main_arg7)
abbrev wu : Vec Ideal S1024x2816 .f32 := m ((c : Thread nD τ).loc main_arg8)
abbrev wd : Vec Ideal S2816x1024 .f32 := m ((c : Thread nD τ).loc main_arg9)
abbrev pg : Vec Ideal S1024 .f32 := m ((c : Thread nD τ).loc main_arg10)
abbrev wpg : Vec Ideal S1024x1024 .f32 := m ((c : Thread nD τ).loc main_arg11)
abbrev wpp : Vec Ideal S256x1024 .f32 := m ((c : Thread nD τ).loc main_arg12)
abbrev fg : Vec Ideal S1024 .f32 := m ((c : Thread nD τ).loc main_arg13)

/-- The result array, index by index. -/
def RES : Vec Ideal S65536x1024 .f32 := fun j =>
  let i : Fin 65536 := j 0
  post (fun k => x m c (ix3 ⟨i / 8192, by omega⟩ ⟨i % 8192, by omega⟩ k)) (fun k => yn m c (ix3 ⟨i / 8192, by omega⟩ ⟨i % 8192, by omega⟩ k))
    (fun k => yc m c (ix3 ⟨i / 8192, by omega⟩ ⟨i % 8192, by omega⟩ k)) (fun k => yg m c (ix3 ⟨i / 8192, by omega⟩ ⟨i % 8192, by omega⟩ k))
    (fun k => ple m c (ix4 1 ⟨i / 8192, by omega⟩ ⟨i % 8192, by omega⟩ k)) (fun k q => w m c (ix2 k q)) (fun k => ffg m c (ix1 k))
    (fun k q => wg m c (ix2 k q)) (fun k q => wu m c (ix2 k q)) (fun q k => wd m c (ix2 q k)) (fun k => pg m c (ix1 k))
    (fun k q => wpg m c (ix2 k q)) (fun k q => wpp m c (ix2 k q)) (fun k => fg m c (ix1 k)) (j 1)

theorem b0 (t : Fin cfg0.N) (r : Fin 512) (k : Fin 1024) : (iblk m c 0 t : Vec Ideal S512x1024 .f32) (ix2 r k)
    = x m c (ix3 ⟨(t * 512 + r) / 8192, by have : t.val < 128 := t.isLt; omega⟩ ⟨(t * 512 + r) % 8192, by omega⟩ k) := by
  blk_point [iblk, V, idx t]
theorem b1 (t : Fin cfg0.N) (r : Fin 512) (k : Fin 512) : (iblk m c 1 t : Vec Ideal S512x512 .bf16) (ix2 r k)
    = yn m c (ix3 ⟨(t * 512 + r) / 8192, by have : t.val < 128 := t.isLt; omega⟩ ⟨(t * 512 + r) % 8192, by omega⟩ k) := by
  blk_point [iblk, V, idx t]
theorem b2 (t : Fin cfg0.N) (r : Fin 512) (k : Fin 256) : (iblk m c 2 t : Vec Ideal S512x256 .bf16) (ix2 r k)
    = yc m c (ix3 ⟨(t * 512 + r) / 8192, by have : t.val < 128 := t.isLt; omega⟩ ⟨(t * 512 + r) % 8192, by omega⟩ k) := by
  blk_point [iblk, V, idx t]
theorem b3 (t : Fin cfg0.N) (r : Fin 512) (k : Fin 256) : (iblk m c 3 t : Vec Ideal S512x256 .bf16) (ix2 r k)
    = yg m c (ix3 ⟨(t * 512 + r) / 8192, by have : t.val < 128 := t.isLt; omega⟩ ⟨(t * 512 + r) % 8192, by omega⟩ k) := by
  blk_point [iblk, V, idx t]
theorem b4 (t : Fin cfg0.N) (r : Fin 512) (k : Fin 256) : (iblk m c 4 t : Vec Ideal S1x512x256 .f32) (ix3 0 r k)
    = ple m c (ix4 1 ⟨(t * 512 + r) / 8192, by have : t.val < 128 := t.isLt; omega⟩ ⟨(t * 512 + r) % 8192, by omega⟩ k) := by
  blk_point [iblk, V, idx t]
theorem b5 (t : Fin cfg0.N) (k : Fin 1024) (l : Fin 1024) : (iblk m c 5 t : Vec Ideal S1024x1024 .bf16) (ix2 k l) = w m c (ix2 k l) := by
  blk_point [iblk, V, idx t]
theorem b7 (t : Fin cfg0.N) (k : Fin 1024) (l : Fin 2816) : (iblk m c 7 t : Vec Ideal S1024x2816 .bf16) (ix2 k l) = wg m c (ix2 k l) := by
  blk_point [iblk, V, idx t]
theorem b8 (t : Fin cfg0.N) (k : Fin 1024) (l : Fin 2816) : (iblk m c 8 t : Vec Ideal S1024x2816 .bf16) (ix2 k l) = wu m c (ix2 k l) := by
  blk_point [iblk, V, idx t]
theorem b9 (t : Fin cfg0.N) (k : Fin 2816) (l : Fin 1024) : (iblk m c 9 t : Vec Ideal S2816x1024 .bf16) (ix2 k l) = wd m c (ix2 k l) := by
  blk_point [iblk, V, idx t]
theorem b11 (t : Fin cfg0.N) (k : Fin 1024) (l : Fin 1024) : (iblk m c 11 t : Vec Ideal S1024x1024 .bf16) (ix2 k l) = wpg m c (ix2 k l) := by
  blk_point [iblk, V, idx t]
theorem b12 (t : Fin cfg0.N) (k : Fin 256) (l : Fin 1024) : (iblk m c 12 t : Vec Ideal S256x1024 .bf16) (ix2 k l) = wpp m c (ix2 k l) := by
  blk_point [iblk, V, idx t]
theorem b6 (t : Fin cfg0.N) (k : Fin 1024) : (iblk m c 6 t : Vec Ideal S1x1024 .f32) (ix2 0 k) = ffg m c (ix1 k) := by
  blk_point [iblk, V, idx t]
theorem b10 (t : Fin cfg0.N) (k : Fin 1024) : (iblk m c 10 t : Vec Ideal S1x1024 .f32) (ix2 0 k) = pg m c (ix1 k) := by
  blk_point [iblk, V, idx t]
theorem b13 (t : Fin cfg0.N) (k : Fin 1024) : (iblk m c 13 t : Vec Ideal S1x1024 .f32) (ix2 0 k) = fg m c (ix1 k) := by
  blk_point [iblk, V, idx t]

/-- The array the result's window leaves after the whole grid. -/
theorem final : (dats m 0 c).arrAt 14 (cfgs 0).N = RES m c := by
  refine (dats m 0 c).arrAt_eq_of_covers 14 _ (by decide +kernel) fun t _ y => ?_
  blk_simp
  rw [after0_14]
  obtain ⟨r, l, rfl⟩ : ∃ (r : Fin 512) (l : Fin 1024), y = ix2 r l := ⟨y 0, y 1, eq_ix2 y⟩
  refine (Body.out_at ..).trans ?_
  simp only [b0, b1, b2, b3, b4, b5, b6, b7, b8, b9, b10, b11, b12, b13]
  have hr : ((((cfg0.win 14).blk t).view.emb (ix2 r l)) 0 : ℕ) = t * 512 + r := by blk_simp [idx t]
  have hl : (((cfg0.win 14).blk t).view.emb (ix2 r l)) 1 = l := by apply Fin.ext; blk_simp [idx t]
  unfold RES
  simp only [hr, hl]
end Cert.PostIdeal.Final
end
-- ==== Proof.PostRef.lean ====
/- The reference of the layer's last call, read token by token: each stage is the row function of PostRows.lean. -/
module

public import proofs.«01_k».proof.Proof.PostRows
public import proofs.«01_k».proof.Proof.Gen.RefPostIdeal.Run
public import Idealize.ShloMosaic.Lib.Tactic.CleanTypes

@[expose] public section

set_option maxRecDepth 16384

noncomputable section

namespace Cert.RefPostIdeal.Rows
open Cert.RefPostIdeal Cert.RefPostIdeal.Gen Cert.RefPostIdeal.Value Idealize.ShloMosaic Idealize.ShloMosaic.TcCoe Cert.PostRows

variable (V0 : Valuation τ sig (Elt Ideal))

abbrev x : Vec Ideal S8x8192x1024 .f32 := V0 (Proc.devRef .tc main_arg0)
abbrev yn : Vec Ideal S8x8192x512 .f32 := V0 (Proc.devRef .tc main_arg1)
abbrev yc : Vec Ideal S8x8192x256 .f32 := V0 (Proc.devRef .tc main_arg2)
abbrev yg : Vec Ideal S8x8192x256 .f32 := V0 (Proc.devRef .tc main_arg3)
abbrev w : Vec Ideal S1024x1024 .f32 := V0 (Proc.devRef .tc main_arg5)
abbrev ffg : Vec Ideal S1024 .f32 := V0 (Proc.devRef .tc main_arg6)
abbrev wg : Vec Ideal S1024x2816 .f32 := V0 (Proc.devRef .tc main_arg7)
abbrev wu : Vec Ideal S1024x2816 .f32 := V0 (Proc.devRef .tc main_arg8)
abbrev wd : Vec Ideal S2816x1024 .f32 := V0 (Proc.devRef .tc main_arg9)
abbrev pg : Vec Ideal S1024 .f32 := V0 (Proc.devRef .tc main_arg10)
abbrev wpg : Vec Ideal S1024x1024 .f32 := V0 (Proc.devRef .tc main_arg11)
abbrev wpp : Vec Ideal S256x1024 .f32 := V0 (Proc.devRef .tc main_arg12)
abbrev fg : Vec Ideal S1024 .f32 := V0 (Proc.devRef .tc main_arg13)
abbrev ple : Vec Ideal S2x8x8192x256 .f32 := V0 (Proc.devRef .tc main_arg4)

/-- The residual stream with the mixers' outputs added. -/
abbrev x1 : Vec Ideal S8x8192x1024 .f32 := res_main_v2 V0
/-- The same, normed for the feed-forward. -/
abbrev h1 : Vec Ideal S8x8192x1024 .f32 := res_main_v15 V0
/-- The residual stream after the feed-forward. -/
abbrev x2 : Vec Ideal S8x8192x1024 .f32 := res_main_v21 V0
/-- The residual stream after the per-layer embedding. -/
abbrev x3 : Vec Ideal S8x8192x1024 .f32 := res_main_v46 V0

/-- A sum over 1024 numbers, cut where the three mixers' outputs meet. -/
theorem sum_three (f : Fin 1024 → EReal) : ∑ k, f k
    = (∑ k : Fin 512, f ⟨k, by omega⟩ + ∑ k : Fin 256, f ⟨512 + k, by omega⟩) + ∑ k : Fin 256, f ⟨768 + k, by omega⟩ := by
  rw [Fin.sum_univ_two_halves 768 256 rfl f, Fin.sum_univ_two_halves 512 256 rfl]

/-- The mixing stage of the reference, at token `(b, s)`. -/
theorem v2_at (b : Fin 8) (s : Fin 8192) (l : Fin 1024) : x1 V0 (ix3 b s l)
    = mix (fun k => x V0 (ix3 b s k)) (fun k => yn V0 (ix3 b s k)) (fun k => yc V0 (ix3 b s k)) (fun k => yg V0 (ix3 b s k)) (fun k l => w V0 (ix2 k l)) l := by
  unfold x1 res_main_v2
  clean_types
  pointwise []
  rw [sum_three]
  simp only [mix]
  rfl

/-- The feed-forward's norm of the reference, at token `(b, s)`. -/
theorem v15_at (b : Fin 8) (s : Fin 8192) (l : Fin 1024) : h1 V0 (ix3 b s l)
    = rms (fun k => x1 V0 (ix3 b s k)) (fun k => ffg V0 (ix1 k)) l := by
  unfold h1 res_main_v15 x1
  generalize res_main_v2 V0 = X
  clean_types
  pointwise [rms]

/-- The feed-forward stage of the reference, at token `(b, s)`. -/
theorem v21_at (b : Fin 8) (s : Fin 8192) (l : Fin 1024) : x2 V0 (ix3 b s l)
    = ffn (fun k => x1 V0 (ix3 b s k)) (fun k => h1 V0 (ix3 b s k)) (fun k q => wg V0 (ix2 k q)) (fun k q => wu V0 (ix2 k q)) (fun q k => wd V0 (ix2 q k)) l := by
  unfold x2 res_main_v21 res_main_v16 x1 h1
  generalize res_main_v2 V0 = X
  generalize res_main_v15 V0 = H
  clean_types
  pointwise [ffn, sigm]

/-- The embedding stage of the reference, at token `(b, s)`. -/
theorem v46_at (b : Fin 8) (s : Fin 8192) (l : Fin 1024) : x3 V0 (ix3 b s l)
    = emb (fun k => x2 V0 (ix3 b s k)) (rms (fun k => x2 V0 (ix3 b s k)) (fun k => pg V0 (ix1 k))) (fun k => ple V0 (ix4 1 b s k))
        (fun k q => wpg V0 (ix2 k q)) (fun k q => wpp V0 (ix2 k q)) l := by
  unfold x3 res_main_v46 x2
  generalize res_main_v21 V0 = X
  clean_types
  pointwise [emb, sigm, rms]

/-- The reference's result, at row `i`: `post` of token `(i / 8192, i % 8192)`. -/
theorem result_at (i : Fin 65536) (l : Fin 1024) :
    (val2 V0 (Proc.devRef .tc main_v60) : Vec Ideal S65536x1024 .f32) (ix2 i l)
    = post (fun k => x V0 (ix3 ⟨i / 8192, by omega⟩ ⟨i % 8192, by omega⟩ k)) (fun k => yn V0 (ix3 ⟨i / 8192, by omega⟩ ⟨i % 8192, by omega⟩ k))
        (fun k => yc V0 (ix3 ⟨i / 8192, by omega⟩ ⟨i % 8192, by omega⟩ k)) (fun k => yg V0 (ix3 ⟨i / 8192, by omega⟩ ⟨i % 8192, by omega⟩ k))
        (fun k => ple V0 (ix4 1 ⟨i / 8192, by omega⟩ ⟨i % 8192, by omega⟩ k)) (fun k q => w V0 (ix2 k q)) (fun k => ffg V0 (ix1 k))
        (fun k q => wg V0 (ix2 k q)) (fun k q => wu V0 (ix2 k q)) (fun q k => wd V0 (ix2 q k)) (fun k => pg V0 (ix1 k))
        (fun k q => wpg V0 (ix2 k q)) (fun k q => wpp V0 (ix2 k q)) (fun k => fg V0 (ix1 k)) l := by
  rw [val2_main_v60]
  have h3 := v46_at V0 ⟨i / 8192, by omega⟩ ⟨i % 8192, by omega⟩
  have h2 := v21_at V0 ⟨i / 8192, by omega⟩ ⟨i % 8192, by omega⟩
  have h1 := v15_at V0 ⟨i / 8192, by omega⟩ ⟨i % 8192, by omega⟩
  have h0 := v2_at V0 ⟨i / 8192, by omega⟩ ⟨i % 8192, by omega⟩
  simp only [h2, h1, h0] at h3
  unfold x3 at h3
  generalize res_main_v46 V0 = X at h3 ⊢
  clean_types
  pointwise []
  simp only [h3]
  rfl
end Cert.RefPostIdeal.Rows
end
-- ==== Proof.PostClaim.lean ====
/- The kernel of the layer's last call computes what its reference computes. -/
module

public import proofs.«01_k».proof.Defs
public import proofs.«01_k».proof.Proof.PostValue
public import proofs.«01_k».proof.Proof.PostRef
public import Idealize.ShloMosaic.Lib.Claim
public import Idealize.ShloMosaic.Lib.Quiescent

@[expose] public section

set_option maxRecDepth 16384

noncomputable section

namespace Cert.PostClaim

open Idealize.ShloMosaic Idealize.ShloMosaic.TcCoe Idealize.SL.Sem

/-- The two results are one array, from launch memories that agree on the arguments. -/
theorem algebraic : Cert.algebraic_PostIdeal_RefPostIdeal := by
  pair_intro
  · run_from Cert.PostIdeal.Gen.run_main m g
  · run_from Cert.RefPostIdeal.Value.run m' g'
    obtain ⟨h0, h1, h2, h3, h4, h5, h6, h7, h8, h9, h10, h11, h12, h13⟩ := hagree c
    rw [← h13]
    refine (RefPostIdeal.Value.val2_main_v60 (StableHlo.launchContents m' c)).symm.trans ?_
    refine Eq.trans ?_ (PostIdeal.Final.final m c).symm
    have e0 : RefPostIdeal.Rows.x (StableHlo.launchContents m' c) = PostIdeal.Final.x m c := h0
    have e1 : RefPostIdeal.Rows.yn (StableHlo.launchContents m' c) = PostIdeal.Final.yn m c := h1
    have e2 : RefPostIdeal.Rows.yc (StableHlo.launchContents m' c) = PostIdeal.Final.yc m c := h2
    have e3 : RefPostIdeal.Rows.yg (StableHlo.launchContents m' c) = PostIdeal.Final.yg m c := h3
    have e4 : RefPostIdeal.Rows.ple (StableHlo.launchContents m' c) = PostIdeal.Final.ple m c := h4
    have e5 : RefPostIdeal.Rows.w (StableHlo.launchContents m' c) = PostIdeal.Final.w m c := h5
    have e6 : RefPostIdeal.Rows.ffg (StableHlo.launchContents m' c) = PostIdeal.Final.ffg m c := h6
    have e7 : RefPostIdeal.Rows.wg (StableHlo.launchContents m' c) = PostIdeal.Final.wg m c := h7
    have e8 : RefPostIdeal.Rows.wu (StableHlo.launchContents m' c) = PostIdeal.Final.wu m c := h8
    have e9 : RefPostIdeal.Rows.wd (StableHlo.launchContents m' c) = PostIdeal.Final.wd m c := h9
    have e10 : RefPostIdeal.Rows.pg (StableHlo.launchContents m' c) = PostIdeal.Final.pg m c := h10
    have e11 : RefPostIdeal.Rows.wpg (StableHlo.launchContents m' c) = PostIdeal.Final.wpg m c := h11
    have e12 : RefPostIdeal.Rows.wpp (StableHlo.launchContents m' c) = PostIdeal.Final.wpp m c := h12
    have e13 : RefPostIdeal.Rows.fg (StableHlo.launchContents m' c) = PostIdeal.Final.fg m c := h13
    funext j
    obtain ⟨i, l, rfl⟩ : ∃ (i : Fin 65536) (l : Fin 1024), j = ix2 i l := ⟨j 0, j 1, eq_ix2 j⟩
    refine (RefPostIdeal.Rows.result_at _ i l).trans ?_
    rw [e0, e1, e2, e3, e4, e5, e6, e7, e8, e9, e10, e11, e12, e13]
    rfl

/-- The reference's run leaves its arguments as they were. -/
theorem reference_frame : Cert.quiescent_RefPostIdeal := by
  intro m g _
  exact (θ_run _ _ _).mono (fun r h => ⟨fun c => (h c).2, sem_eq_zero_of_no_sems (sig := Cert.RefPostIdeal.sig) (by decide) _⟩)
    (Cert.RefPostIdeal.Value.run m g)

end Cert.PostClaim
end
-- ==== Proof.ConvRows.lean ====
/- The row mathematics of the depthwise convolution's call, and each stage of the kernel's body as it. -/
module

public import proofs.«01_k».proof.Proof.Gen.ConvIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvRows

open Idealize.ShloMosaic

/-- The logistic function as the layer writes it. -/
def sigm (z : EReal) : EReal := Ideal.div 1 (1 + Ideal.exp (-z))

/-- The gated half of one token's 512 numbers, at channel `l`. -/
def glu (u : Fin 512 → EReal) (l : Fin 256) : EReal := u ⟨l, by omega⟩ * sigm (u ⟨256 + l, by omega⟩)

/-- The layer norm of one token's 256 channels. -/
def lnorm (a g b : Fin 256 → EReal) (l : Fin 256) : EReal :=
  (a l - Ideal.div (∑ k, a k) (Ideal.ofBits .f32 0x43800000#32))
    * Ideal.rsqrt (Ideal.div (∑ k, (a k - Ideal.div (∑ k, a k) (Ideal.ofBits .f32 0x43800000#32))
        * (a k - Ideal.div (∑ k, a k) (Ideal.ofBits .f32 0x43800000#32))) (Ideal.ofBits .f32 0x43800000#32)
      + Ideal.ofBits .f32 0x358637BD#32) * g l + b l

/-- The 31 taps of the depthwise convolution, at one channel: `h i` is the gated input `30 - i` tokens back. -/
def taps (h w : Fin 31 → EReal) (b : EReal) : EReal := ∑ i, h i * w i + b

/-- The whole call on one token: `h i` the gated input `30 - i` tokens back. -/
def conv (h w : Fin 31 → Fin 256 → EReal) (b g bb : Fin 256 → EReal) (l : Fin 256) : EReal :=
  let y := lnorm (fun k => taps (fun i => h i k) (fun i => w i k) (b k)) g bb l
  y * sigm y

end Cert.ConvRows

namespace Cert.ConvIdeal.Body
open Cert.ConvIdeal Cert.ConvIdeal.Gen Idealize.ShloMosaic Idealize.ShloMosaic.TcCoe Cert.ConvRows

/-- The gated halo, zero in the first block of a sequence. -/
theorem pay2_at (i : grid0.Coords) (x1 : Vec Ideal S1x32x512 .f32) (r : Fin 32) (l : Fin 256) :
    k0_pay2 i x1 (ix2 r l) = if (i 1).val = 0 then 0 else glu (fun k => x1 (ix3 0 r k)) l := by
  have h : Scalar.cmpi CmpIPredicate.eq (BitVec.ofNat 32 (i 1).val) 0#32 = if (i 1).val = 0 then 1#1 else 0#1 :=
    (by decide : ∀ a : Fin 16, Scalar.cmpi CmpIPredicate.eq (BitVec.ofNat 32 a.val) 0#32 = if a.val = 0 then 1#1 else 0#1) (i 1)
  pointwise [k0_pay2]
  rw [h, zero_sub]
  split <;> simp [Scalar.select, glu, sigm]

/-- The gated block. -/
theorem pay3_at (x0 : Vec Ideal S1x512x512 .f32) (r : Fin 512) (l : Fin 256) :
    k0_pay3 x0 (ix2 r l) = glu (fun k => x0 (ix3 0 r k)) l := by
  pointwise [k0_pay3]
  rw [zero_sub]
  rfl

theorem pay5_at (r : Fin 8) (l : Fin 256) : (k0_pay5 (F := Ideal) k0_pay4 : Vec Ideal S8x256 .f32) (ix2 r l) = 0 := by
  pointwise [k0_pay5, k0_pay4]

/-- The gated inputs as the scratch holds them: 32 tokens before the block, the block, zeros. -/
def hist (i : grid0.Coords) (x0 : Vec Ideal S1x512x512 .f32) (x1 : Vec Ideal S1x32x512 .f32) (r : ℕ) (l : Fin 256) : EReal :=
  if h : r < 32 then if (i 1).val = 0 then 0 else glu (fun k => x1 (ix3 0 ⟨r, h⟩ k)) l
  else if h : r < 544 then glu (fun k => x0 (ix3 0 ⟨r - 32, by omega⟩ k)) l else 0

/-- The three stores into the scratch, the last first. -/
abbrev pieces (i : grid0.Coords) (x0 : Vec Ideal S1x512x512 .f32) (x1 : Vec Ideal S1x32x512 .f32) : List (View.Piece (Elt Ideal) S552x256 .f32) :=
  [⟨Rect.unit ![544, 0] ![8, 256] inb_S552x256_S8x256_544_0, k0_pay5 (F := Ideal) k0_pay4⟩,
      ⟨Rect.unit ![32, 0] ![512, 256] inb_S552x256_S512x256_32_0, k0_pay3 x0⟩,
      ⟨Rect.unit ![0, 0] ![32, 256] inb_S552x256_S32x256_0_0, k0_pay2 i x1⟩]

/-- What the three stores into the scratch leave. -/
theorem hist_canon (i : grid0.Coords) (x0 : Vec Ideal S1x512x512 .f32) (x1 : Vec Ideal S1x32x512 .f32) (r : Fin 552) (l : Fin 256)
    : View.canon (Val := Elt Ideal) (s := S552x256) (e := .f32)
      (pieces i x0 x1) (ix2 r l) = hist i x0 x1 r l := by
  have hp : View.PiecesOf (Val := Elt Ideal) (s := S552x256) (e := .f32) (fun j : S552x256.Idx => hist i x0 x1 (j 0) (j 1))
      (pieces i x0 x1) := by
    refine ⟨fun x => ?_, fun x => ?_, fun x => ?_, trivial⟩
    · obtain ⟨a, b, rfl⟩ : ∃ (a : Fin 8) (b : Fin 256), x = ix2 a b := ⟨x 0, x 1, eq_ix2 x⟩
      refine (pay5_at a b).trans ?_
      have h0 : (((Rect.unit (s := S552x256) ![544, 0] ![8, 256] inb_S552x256_S8x256_544_0).emb (ix2 a b)) 0 : ℕ) = 544 + a := by blk_simp []
      simp only [hist, h0]
      rw [dif_neg (by omega), dif_neg (by omega)]
    · obtain ⟨a, b, rfl⟩ : ∃ (a : Fin 512) (b : Fin 256), x = ix2 a b := ⟨x 0, x 1, eq_ix2 x⟩
      refine (pay3_at x0 a b).trans ?_
      have h0 : (((Rect.unit (s := S552x256) ![32, 0] ![512, 256] inb_S552x256_S512x256_32_0).emb (ix2 a b)) 0 : ℕ) = 32 + a := by blk_simp []
      have h1 : ((Rect.unit (s := S552x256) ![32, 0] ![512, 256] inb_S552x256_S512x256_32_0).emb (ix2 a b)) 1 = b := by apply Fin.ext; blk_simp []
      simp only [hist, h0, h1]
      rw [dif_neg (by omega), dif_pos (by omega)]
      simp only [Nat.add_sub_cancel_left]
    · obtain ⟨a, b, rfl⟩ : ∃ (a : Fin 32) (b : Fin 256), x = ix2 a b := ⟨x 0, x 1, eq_ix2 x⟩
      refine (pay2_at i x1 a b).trans ?_
      have h0 : (((Rect.unit (s := S552x256) ![0, 0] ![32, 256] inb_S552x256_S32x256_0_0).emb (ix2 a b)) 0 : ℕ) = a := by blk_simp []
      have h1 : ((Rect.unit (s := S552x256) ![0, 0] ![32, 256] inb_S552x256_S32x256_0_0).emb (ix2 a b)) 1 = b := by apply Fin.ext; blk_simp []
      simp only [hist, h0, h1]
      rw [dif_pos (by omega)]
  exact View.canon_append_of_piecesOf _ [] _ hp _ (View.cover_of_tiledBy _ ![8, 256] (by sl_kernel_rfl) _)

/-- A load of 544 rows of the scratch from row `s` on. -/
theorem hist_load (i : grid0.Coords) (x0 : Vec Ideal S1x512x512 .f32) (x1 : Vec Ideal S1x32x512 .f32) (s : ℕ) (h) (r : Fin 544) (l : Fin 256)
    : (View.whole cc0_scratch0).readCov (Val := Elt Ideal)
      (pieces i x0 x1)
      (Rect.unit (s := S552x256) ![s, 0] ![544, 256] h).toLoadRect (ix2 r l) = hist i x0 x1 (s + r) l := by
  have hs : s ≤ 8 := by have := h 0; simpa using this
  rw [View.readCov_eq_canon']
  refine Eq.trans (congrArg _ ?_) (hist_canon i x0 x1 ⟨s + r, by omega⟩ l)
  funext a
  apply Fin.ext
  fin_cases a
  · show s + 1 * r.val = s + r.val
    omega
  · show 0 + 1 * l.val = l.val
    omega

/-- The norm and the gate of the accumulated taps, at row `r`. -/
theorem out_stage (A P h1 h2 h3 : Vec Ideal S512x256 .f32) (w1 w2 w3 g b : Vec Ideal S1x256 .f32) (r : Fin 512) (a : Fin 256 → EReal)
    (ha : ∀ k, A (ix2 r k) + P (ix2 r k) + h1 (ix2 r k) * w1 (ix2 0 k) + h2 (ix2 r k) * w2 (ix2 0 k) + h3 (ix2 r k) * w3 (ix2 0 k) = a k)
    (l : Fin 256) : k0_pay1 (k0_pay21 A P h1 w1 h2 w2 h3 w3 g) b (ix3 0 r l)
      = lnorm a (fun k => g (ix2 0 k)) (fun k => b (ix2 0 k)) l * sigm (lnorm a (fun k => g (ix2 0 k)) (fun k => b (ix2 0 k)) l) := by
  pointwise [k0_pay1, k0_pay21]
  simp only [ha, zero_sub]
  rfl

/-- One grid point's result, at row `r` of its block. -/
theorem out_at (c : Dev nD) (i : grid0.Coords) (arg2 : Memref sig .tc .vmem S1x512x512 .f32) (harg2 : arg2.IsWhole) (arg3 : Memref sig .tc .vmem S1x32x512 .f32) (harg3 : arg3.IsWhole) (arg4 : Memref sig .tc .vmem S32x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x512x256 .bf16) (harg8 : arg8.IsWhole)
    (x0 : Vec Ideal S1x512x512 .f32) (x1 : Vec Ideal S1x32x512 .f32) (x2 : Vec Ideal S32x256 .f32) (x3 x4 x5 : Vec Ideal S1x256 .f32)
    (r : Fin 512) (l : Fin 256) :
    out0_A_6 c i arg2 harg2 arg3 harg3 arg4 harg4 arg5 harg5 arg6 harg6 arg7 harg7 arg8 harg8 scM0_0 (Memref.isWhole_whole _) scM0_1 (Memref.isWhole_whole _) x0 x1 x2 x3 x4 x5 (ix3 0 r l)
      = conv (fun j k => hist i x0 x1 (2 + j + r) k) (fun j k => x2 (ix2 ⟨j, by omega⟩ k)) (fun k => x3 (ix2 0 k)) (fun k => x4 (ix2 0 k)) (fun k => x5 (ix2 0 k)) l := by
  frame_open
  simp (disch := decide) only [↓ View.readCov_skip, ↓ View.readCov_cons_toLoadRect, ↓ View.readCov_fill]
  frame_out
  have e0 (r : Fin 544) (l : Fin 256) : (View.whole cc0_scratch0).readCov (Val := Elt Ideal)
      [⟨Rect.unit ![32, 0] ![512, 256] inb_S552x256_S512x256_32_0, k0_pay3 x0⟩, ⟨Rect.unit ![0, 0] ![32, 256] inb_S552x256_S32x256_0_0, k0_pay2 i x1⟩]
      (Rect.unit (s := S552x256) ![0, 0] ![544, 256] inb_S552x256_S544x256_0_0).toLoadRect (ix2 r l) = hist i x0 x1 (0 + r) l :=
    (congrFun (View.readCov_skip _ _ _ _ _ (by decide)).symm _).trans (hist_load i x0 x1 0 inb_S552x256_S544x256_0_0 r l)
  generalize (View.whole cc0_scratch0).readCov (Val := Elt Ideal)
      [⟨Rect.unit ![32, 0] ![512, 256] inb_S552x256_S512x256_32_0, k0_pay3 x0⟩, ⟨Rect.unit ![0, 0] ![32, 256] inb_S552x256_S32x256_0_0, k0_pay2 i x1⟩]
      (Rect.unit (s := S552x256) ![0, 0] ![544, 256] inb_S552x256_S544x256_0_0).toLoadRect = X0 at e0 ⊢
  have e1 := hist_load i x0 x1 1 inb_S552x256_S544x256_1_0
  generalize (View.whole cc0_scratch0).readCov (Val := Elt Ideal) (pieces i x0 x1) (Rect.unit (s := S552x256) ![1, 0] ![544, 256] inb_S552x256_S544x256_1_0).toLoadRect = X1 at e1 ⊢
  have e2 := hist_load i x0 x1 2 inb_S552x256_S544x256_2_0
  generalize (View.whole cc0_scratch0).readCov (Val := Elt Ideal) (pieces i x0 x1) (Rect.unit (s := S552x256) ![2, 0] ![544, 256] inb_S552x256_S544x256_2_0).toLoadRect = X2 at e2 ⊢
  have e3 := hist_load i x0 x1 3 inb_S552x256_S544x256_3_0
  generalize (View.whole cc0_scratch0).readCov (Val := Elt Ideal) (pieces i x0 x1) (Rect.unit (s := S552x256) ![3, 0] ![544, 256] inb_S552x256_S544x256_3_0).toLoadRect = X3 at e3 ⊢
  have e4 := hist_load i x0 x1 4 inb_S552x256_S544x256_4_0
  generalize (View.whole cc0_scratch0).readCov (Val := Elt Ideal) (pieces i x0 x1) (Rect.unit (s := S552x256) ![4, 0] ![544, 256] inb_S552x256_S544x256_4_0).toLoadRect = X4 at e4 ⊢
  have e5 := hist_load i x0 x1 5 inb_S552x256_S544x256_5_0
  generalize (View.whole cc0_scratch0).readCov (Val := Elt Ideal) (pieces i x0 x1) (Rect.unit (s := S552x256) ![5, 0] ![544, 256] inb_S552x256_S544x256_5_0).toLoadRect = X5 at e5 ⊢
  have e6 := hist_load i x0 x1 6 inb_S552x256_S544x256_6_0
  generalize (View.whole cc0_scratch0).readCov (Val := Elt Ideal) (pieces i x0 x1) (Rect.unit (s := S552x256) ![6, 0] ![544, 256] inb_S552x256_S544x256_6_0).toLoadRect = X6 at e6 ⊢
  have e7 := hist_load i x0 x1 7 inb_S552x256_S544x256_7_0
  generalize (View.whole cc0_scratch0).readCov (Val := Elt Ideal) (pieces i x0 x1) (Rect.unit (s := S552x256) ![7, 0] ![544, 256] inb_S552x256_S544x256_7_0).toLoadRect = X7 at e7 ⊢
  refine (out_stage _ _ _ _ _ _ _ _ _ _ r (fun k => taps (fun j => hist i x0 x1 (2 + j + r) k) (fun j => x2 (ix2 ⟨j, by omega⟩ k)) (x3 (ix2 0 k))) (fun k => ?_) l).trans ?_
  · pointwise [k0_pay7, k0_pay10, k0_pay12, k0_pay14, k0_pay16, k0_pay18, k0_pay20, k0_pay6, k0_pay8, k0_pay9, k0_pay11, k0_pay13, k0_pay15, k0_pay17, k0_pay19]
    simp only [e0, e1, e2, e3, e4, e5, e6, e7]
    obtain ⟨W, hW⟩ : ∃ W : ℕ → EReal, ∀ n : Fin 32, x2 (ix2 n k) = W n :=
      ⟨fun n => if h : n < 32 then x2 (ix2 ⟨n, h⟩ k) else 0, fun n => by simp only [n.isLt, ↓reduceDIte]⟩
    have w0 : x2 (ix2 0 k) = W 0 := hW 0
    have w1 : x2 (ix2 1 k) = W 1 := hW 1
    have w2 : x2 (ix2 2 k) = W 2 := hW 2
    have w3 : x2 (ix2 3 k) = W 3 := hW 3
    have w4 : x2 (ix2 4 k) = W 4 := hW 4
    have w5 : x2 (ix2 5 k) = W 5 := hW 5
    have w6 : x2 (ix2 6 k) = W 6 := hW 6
    have w7 : x2 (ix2 7 k) = W 7 := hW 7
    have w8 : x2 (ix2 8 k) = W 8 := hW 8
    have w9 : x2 (ix2 9 k) = W 9 := hW 9
    have w10 : x2 (ix2 10 k) = W 10 := hW 10
    have w11 : x2 (ix2 11 k) = W 11 := hW 11
    have w12 : x2 (ix2 12 k) = W 12 := hW 12
    have w13 : x2 (ix2 13 k) = W 13 := hW 13
    have w14 : x2 (ix2 14 k) = W 14 := hW 14
    have w15 : x2 (ix2 15 k) = W 15 := hW 15
    have w16 : x2 (ix2 16 k) = W 16 := hW 16
    have w17 : x2 (ix2 17 k) = W 17 := hW 17
    have w18 : x2 (ix2 18 k) = W 18 := hW 18
    have w19 : x2 (ix2 19 k) = W 19 := hW 19
    have w20 : x2 (ix2 20 k) = W 20 := hW 20
    have w21 : x2 (ix2 21 k) = W 21 := hW 21
    have w22 : x2 (ix2 22 k) = W 22 := hW 22
    have w23 : x2 (ix2 23 k) = W 23 := hW 23
    have w24 : x2 (ix2 24 k) = W 24 := hW 24
    have w25 : x2 (ix2 25 k) = W 25 := hW 25
    have w26 : x2 (ix2 26 k) = W 26 := hW 26
    have w27 : x2 (ix2 27 k) = W 27 := hW 27
    have w28 : x2 (ix2 28 k) = W 28 := hW 28
    have w29 : x2 (ix2 29 k) = W 29 := hW 29
    have w30 : x2 (ix2 30 k) = W 30 := hW 30
    simp only [taps, w0, w1, w2, w3, w4, w5, w6, w7, w8, w9, w10, w11, w12, w13, w14, w15, w16, w17, w18, w19, w20, w21, w22, w23, w24, w25, w26, w27, w28, w29, w30]
    have hw (n : Fin 31) : x2 (ix2 ⟨n, by omega⟩ k) = W n := hW ⟨n, by omega⟩
    simp only [hw]
    rw [Fin.sum_univ_eq_sum_range (fun j : ℕ => hist i x0 x1 (2 + j + r) k * W j) 31]
    simp only [Finset.sum_range_succ, Finset.sum_range_zero]
    simp only [← Nat.add_assoc, Nat.reduceAdd]
    abel
  · rfl
end Cert.ConvIdeal.Body
end
-- ==== Proof.ConvValue.lean ====
/- The result array of the depthwise convolution's call after the kernel's run: token by token, `conv`. -/
module

public import proofs.«01_k».proof.Proof.ConvRows
public import Idealize.ShloMosaic.Lib.Routing.OpsSet
public import Idealize.ShloMosaic.Lib.Routing.OpsPair

@[expose] public section

set_option maxRecDepth 16384

noncomputable section

namespace Cert.ConvIdeal.Final
open Cert.ConvIdeal Cert.ConvIdeal.Gen Idealize.ShloMosaic Idealize.ShloMosaic.TcCoe Idealize.SL.Sem Cert.ConvRows

variable (m : (ℓ : Loc nD τ sig) → Buf (Elt Ideal) ℓ)

/-- Every window's block at every grid point: the token windows move with the point, the halo window one block of 32 behind, the weights are whole. -/
theorem idx : ∀ t : Fin cfg0.N, win0_0.index t = ![t.val / 16, t.val % 16, 0] ∧ win0_1.index t = ![t.val / 16, 16 * (t.val % 16) - 1, 0]
    ∧ win0_2.index t = ![0, 0] ∧ win0_3.index t = ![0, 0] ∧ win0_4.index t = ![0, 0] ∧ win0_5.index t = ![0, 0]
    ∧ win0_6.index t = ![t.val / 16, t.val % 16, 0] :=
  (by decide +kernel : ∀ t : Fin grid0.N, _)

/-- The second grid coordinate is the block within the sequence. -/
theorem coord : ∀ t : Fin cfg0.N, (grid0.coords t 1).val = t.val % 16 :=
  (by decide +kernel : ∀ t : Fin grid0.N, _)

variable (c : Dev nD)

abbrev u : Vec Ideal S8x8192x512 .f32 := m ((c : Thread nD τ).loc main_arg0)
abbrev w : Vec Ideal S31x256 .f32 := m ((c : Thread nD τ).loc main_arg1)
abbrev wb : Vec Ideal S256 .f32 := m ((c : Thread nD τ).loc main_arg2)
abbrev g : Vec Ideal S256 .f32 := m ((c : Thread nD τ).loc main_arg3)
abbrev bb : Vec Ideal S256 .f32 := m ((c : Thread nD τ).loc main_arg4)

/-- The result at token `(b, s)`. -/
def res (b : Fin 8) (s : Fin 8192) (l : Fin 256) : EReal :=
  conv (fun i k => if h : 30 ≤ i.val + s.val then glu (fun j => u m c (ix3 b ⟨i + s - 30, by omega⟩ j)) k else 0)
        (fun i k => w m c (ix2 i k)) (fun k => wb m c (ix1 k)) (fun k => g m c (ix1 k)) (fun k => bb m c (ix1 k)) l

/-- The result array, index by index. -/
def RES : Vec Ideal S8x8192x256 .bf16 := fun j => res m c (j 0) (j 1) (j 2)

/-- Update `(a, b)` of the host's padding of the taps lands at element `(a, b)`. -/
theorem lands (x : Vec Ideal S32x256 .f32) (idx : IVec S1 32) (hidx : ∀ i, (idx i).toInt = 0) (a : Fin 31) (b : Fin 256) (e : Fin 32) (f : Fin 256) :
    scatter_S32x256_S1_S31x256_01_n_0_0.resultIdx? (ix2 a b) idx = some (ix2 e f) ↔ a.val = e.val ∧ b = f := by
  have w0 : scatter_S32x256_S1_S31x256_01_n_0_0.window (ix2 a b) 0 = a.val := rfl
  have w1 : scatter_S32x256_S1_S31x256_01_n_0_0.window (ix2 a b) 1 = b.val := rfl
  have s1 : scatter_S32x256_S1_S31x256_01_n_0_0.start (ix2 a b) idx 1 = 0 := rfl
  have s0 : scatter_S32x256_S1_S31x256_01_n_0_0.start (ix2 a b) idx 0 = 0 := hidx _
  refine (Routing.resultIdx?_ix2 scatter_S32x256_S1_S31x256_01_n_0_0 (ix2 a b) idx e f).trans ?_
  rw [w0, w1, s0, s1, Fin.ext_iff]
  omega

/-- The host's padding of the taps, read at one of the first 31 rows. -/
theorem pad_at (x : Vec Ideal S32x256 .f32) (idx : IVec S1 32) (hidx : ∀ i, (idx i).toInt = 0) (y : Vec Ideal S31x256 .f32) (a : Fin 31) (b : Fin 256) :
    Host.scatter scatter_S32x256_S1_S31x256_01_n_0_0 (fun _ b => b) x idx y (ix2 ⟨a, by omega⟩ b) = y (ix2 a b) := by
  refine Routing.scatter_set_hit _ x idx y _ _ (fun k hk => ?_) (ix2 a b) ((lands x idx hidx a b ⟨a, by omega⟩ b).2 ⟨rfl, rfl⟩)
  obtain ⟨a', b', rfl⟩ : ∃ (a' : Fin 31) (b' : Fin 256), k = ix2 a' b' := ⟨k 0, k 1, eq_ix2 k⟩
  obtain ⟨h1, h2⟩ := (lands x idx hidx a' b' ⟨a, by omega⟩ b).1 hk
  rw [h2, Fin.ext h1]

theorem b0 (t : Fin cfg0.N) (r : Fin 512) (k : Fin 512) : (iblk m c 0 t : Vec Ideal S1x512x512 .f32) (ix3 0 r k)
    = u m c (ix3 ⟨t / 16, by have : t.val < 128 := t.isLt; omega⟩ ⟨t % 16 * 512 + r, by omega⟩ k) := by
  blk_point [iblk, V, idx t]
theorem b1 (t : Fin cfg0.N) (r : Fin 32) (k : Fin 512) : (iblk m c 1 t : Vec Ideal S1x32x512 .f32) (ix3 0 r k)
    = u m c (ix3 ⟨t / 16, by have : t.val < 128 := t.isLt; omega⟩ ⟨(16 * (t % 16) - 1) * 32 + r, by omega⟩ k) := by
  blk_point [iblk, V, idx t]
theorem b2 (t : Fin cfg0.N) (a : Fin 31) (k : Fin 256) : (iblk m c 2 t : Vec Ideal S32x256 .f32) (ix2 ⟨a, by omega⟩ k) = w m c (ix2 a k) := by
  refine Eq.trans ?_ (pad_at (broadcastInDim S32x256 ![] bcast_S_S32x256 (constant (F := Ideal) S_ .f32 0x00000000#32)) (broadcastInDim S1 ![] bcast_S_S1 (constantI S_ 32 0#32)) (fun _ => rfl) (w m c) a k)
  have hV : (V m c main_v2 : Vec Ideal S32x256 .f32) = Host.scatter scatter_S32x256_S1_S31x256_01_n_0_0 (fun _ b => b)
      (broadcastInDim S32x256 ![] bcast_S_S32x256 (constant (F := Ideal) S_ .f32 0x00000000#32)) (broadcastInDim S1 ![] bcast_S_S1 (constantI S_ 32 0#32)) (w m c) := by
    unfold V
    after_results_simp
  have he : (win0_2.blk t).view.emb (ix2 (⟨a.val, by omega⟩ : Fin 32) k) = (ix2 (⟨a.val, by omega⟩ : Fin 32) k : S32x256.Idx) := by
    funext z
    match z with
    | ⟨0, _⟩ => apply Fin.ext; blk_simp [idx t]
    | ⟨1, _⟩ => apply Fin.ext; blk_simp [idx t]
  exact (congrArg (V m c main_v2) he).trans (congrFun hV _)
theorem b3 (t : Fin cfg0.N) (k : Fin 256) : (iblk m c 3 t : Vec Ideal S1x256 .f32) (ix2 0 k) = wb m c (ix1 k) := by
  blk_point [iblk, V, idx t]
theorem b4 (t : Fin cfg0.N) (k : Fin 256) : (iblk m c 4 t : Vec Ideal S1x256 .f32) (ix2 0 k) = g m c (ix1 k) := by
  blk_point [iblk, V, idx t]
theorem b5 (t : Fin cfg0.N) (k : Fin 256) : (iblk m c 5 t : Vec Ideal S1x256 .f32) (ix2 0 k) = bb m c (ix1 k) := by
  blk_point [iblk, V, idx t]

/-- The scratch of grid point `t` at row `2 + j + r`: the gated input `30 - j` tokens before row `r` of the block. -/
theorem hist_at (t : Fin cfg0.N) (j : Fin 31) (r : Fin 512) (k : Fin 256) :
    Body.hist (grid0.coords t) (iblk m c 0 t) (iblk m c 1 t) (2 + j + r) k
    = if h : 30 ≤ j.val + (t.val % 16 * 512 + r.val) then
        glu (fun q => u m c (ix3 ⟨t / 16, by have : t.val < 128 := t.isLt; omega⟩ ⟨j + (t % 16 * 512 + r) - 30, by omega⟩ q)) k else 0 := by
  unfold Body.hist
  simp only [b0, b1, coord]
  split_ifs with h1 h2 h3 h4 h5 h6
  · omega
  · rfl
  · have e : (16 * (t.val % 16) - 1) * 32 + (2 + j.val + r.val) = j + (t % 16 * 512 + r) - 30 := by omega
    simp only [e]
  · omega
  · have e : t.val % 16 * 512 + (2 + j.val + r.val - 32) = j + (t % 16 * 512 + r) - 30 := by omega
    simp only [e]
  · omega
  · omega
  · omega

/-- The array the result's window leaves after the whole grid. -/
theorem final : (dats m 0 c).arrAt 6 (cfgs 0).N = RES m c := by
  refine (dats m 0 c).arrAt_eq_of_covers 6 _ (by decide +kernel) fun t _ y => ?_
  blk_simp
  rw [after0_6]
  unfold outsAt0
  obtain ⟨z, r, l, rfl⟩ : ∃ (z : Fin 1) (r : Fin 512) (l : Fin 256), y = ix3 z r l := ⟨y 0, y 1, y 2, eq_ix3 y⟩
  obtain rfl : z = 0 := Subsingleton.elim _ _
  refine (Body.out_at ..).trans ?_
  simp only [hist_at, b2, b3, b4, b5]
  have hb : (((cfg0.win 6).blk t).view.emb (ix3 0 r l)) 0 = (⟨t.val / 16, by have : t.val < 128 := t.isLt; omega⟩ : Fin 8) := by apply Fin.ext; blk_simp [idx t]; simp
  have hr : (((cfg0.win 6).blk t).view.emb (ix3 0 r l)) 1 = (⟨t.val % 16 * 512 + r.val, by omega⟩ : Fin 8192) := by apply Fin.ext; blk_simp [idx t]
  have hl : (((cfg0.win 6).blk t).view.emb (ix3 0 r l)) 2 = l := by apply Fin.ext; blk_simp [idx t]
  unfold RES
  rw [hb, hr, hl]
  rfl
end Cert.ConvIdeal.Final
end
-- ==== Proof.ConvRef.lean ====
/- The reference of the depthwise convolution's call, read token by token. -/
module

public import proofs.«01_k».proof.Proof.ConvRows
public import proofs.«01_k».proof.Proof.Gen.RefConvIdeal.Run
public import Idealize.ShloMosaic.Lib.Tactic.CleanTypes

@[expose] public section

set_option maxRecDepth 16384

noncomputable section

namespace Cert.RefConvIdeal.Rows
open Cert.RefConvIdeal Cert.RefConvIdeal.Gen Cert.RefConvIdeal.Value Idealize.ShloMosaic Idealize.ShloMosaic.TcCoe Cert.ConvRows

variable (V0 : Valuation τ sig (Elt Ideal))

abbrev u : Vec Ideal S8x8192x512 .f32 := V0 (Proc.devRef .tc main_arg0)
abbrev w : Vec Ideal S31x256 .f32 := V0 (Proc.devRef .tc main_arg1)
abbrev wb : Vec Ideal S256 .f32 := V0 (Proc.devRef .tc main_arg2)
abbrev g : Vec Ideal S256 .f32 := V0 (Proc.devRef .tc main_arg3)
abbrev bb : Vec Ideal S256 .f32 := V0 (Proc.devRef .tc main_arg4)

/-- The gated input with thirty tokens of zeros before the sequence. -/
abbrev hp : Vec Ideal S8x8222x256 .f32 := res_main_v9 V0
abbrev a87 : Vec Ideal S8x8192x256 .f32 := res_main_v87 V0
abbrev a164 : Vec Ideal S8x8192x256 .f32 := res_main_v164 V0
abbrev a230 : Vec Ideal S8x8192x256 .f32 := res_main_v230 V0
abbrev a252 : Vec Ideal S8x8192x256 .f32 := res_main_v252 V0

/-- The pad's value, the integer zero as a number. -/
theorem sitofp_zero : (FloatOps.sitofp (F := Ideal) FTy.f32 (0#32) : EReal) = 0 := by
  simp [FloatOps.sitofp]

/-- The gated input of the padded array at row `q`: token `q - 30`, or zero before the sequence. -/
theorem hp_at (b : Fin 8) (q : Fin 8222) (k : Fin 256) : hp V0 (ix3 b q k)
    = if h : 30 ≤ q.val then glu (fun j => u V0 (ix3 b ⟨q - 30, by omega⟩ j)) k else 0 := by
  unfold hp res_main_v9
  clean_types
  pointwise []
  by_cases h : 30 ≤ q.val
  · rw [dif_pos ⟨h, by omega⟩, dif_pos h]
    rfl
  · rw [dif_neg (fun hh => h hh.1), dif_neg h]
    exact sitofp_zero

/-- Tap `i` of token `s`, at channel `k`. -/
def tm (b : Fin 8) (s : Fin 8192) (k : Fin 256) (i : Fin 31) : EReal :=
  hp V0 (ix3 b ⟨i + s, by omega⟩ k) * w V0 (ix2 i k)

/-- The first eleven taps. -/
theorem a87_at (b : Fin 8) (s : Fin 8192) (k : Fin 256) : a87 V0 (ix3 b s k)
    = tm V0 b s k 0 + tm V0 b s k 1 + tm V0 b s k 2 + tm V0 b s k 3 + tm V0 b s k 4 + tm V0 b s k 5 + tm V0 b s k 6 + tm V0 b s k 7 + tm V0 b s k 8 + tm V0 b s k 9 + tm V0 b s k 10 := by
  have h0 : tm V0 b s k 0 = hp V0 (ix3 b ⟨s, by omega⟩ k) * w V0 (ix2 0 k) := by
    unfold tm
    congr 3
    apply Fin.ext
    exact Nat.zero_add _
  rw [h0]
  unfold a87 res_main_v87 tm hp
  generalize res_main_v9 V0 = H
  clean_types
  pointwise []

/-- The first twenty-two taps. -/
theorem a164_at (b : Fin 8) (s : Fin 8192) (k : Fin 256) : a164 V0 (ix3 b s k)
    = a87 V0 (ix3 b s k) + tm V0 b s k 11 + tm V0 b s k 12 + tm V0 b s k 13 + tm V0 b s k 14 + tm V0 b s k 15 + tm V0 b s k 16 + tm V0 b s k 17 + tm V0 b s k 18 + tm V0 b s k 19 + tm V0 b s k 20 + tm V0 b s k 21 := by
  unfold a164 res_main_v164 tm hp a87
  generalize res_main_v9 V0 = H
  generalize res_main_v87 V0 = A
  clean_types
  pointwise []

/-- All taps and the bias. -/
theorem a230_at (b : Fin 8) (s : Fin 8192) (k : Fin 256) : a230 V0 (ix3 b s k)
    = a164 V0 (ix3 b s k) + tm V0 b s k 22 + tm V0 b s k 23 + tm V0 b s k 24 + tm V0 b s k 25 + tm V0 b s k 26 + tm V0 b s k 27 + tm V0 b s k 28 + tm V0 b s k 29 + tm V0 b s k 30 + wb V0 (ix1 k) := by
  unfold a230 res_main_v230 tm hp a164
  generalize res_main_v9 V0 = H
  generalize res_main_v164 V0 = A
  clean_types
  pointwise []

/-- The convolution of the reference. -/
theorem conv_at (b : Fin 8) (s : Fin 8192) (k : Fin 256) : a230 V0 (ix3 b s k)
    = taps (fun i => hp V0 (ix3 b ⟨i + s, by omega⟩ k)) (fun i => w V0 (ix2 i k)) (wb V0 (ix1 k)) := by
  rw [a230_at, a164_at, a87_at]
  have h : taps (fun i => hp V0 (ix3 b ⟨i + s, by omega⟩ k)) (fun i => w V0 (ix2 i k)) (wb V0 (ix1 k))
      = ∑ i, tm V0 b s k i + wb V0 (ix1 k) := rfl
  rw [h]
  simp only [Fin.sum_univ_castSucc, Fin.sum_univ_zero, zero_add]
  rfl

/-- The layer norm of the reference. -/
theorem norm_at (b : Fin 8) (s : Fin 8192) (l : Fin 256) : a252 V0 (ix3 b s l)
    = lnorm (fun k => a230 V0 (ix3 b s k)) (fun k => g V0 (ix1 k)) (fun k => bb V0 (ix1 k)) l := by
  unfold a252 res_main_v252 res_main_v236 a230
  generalize res_main_v230 V0 = A
  clean_types
  pointwise [lnorm]

/-- The reference's result at token `(b, s)`. -/
theorem result_at (b : Fin 8) (s : Fin 8192) (l : Fin 256) :
    (val5 V0 (Proc.devRef .tc main_v254) : Vec Ideal S8x8192x256 .bf16) (ix3 b s l)
    = conv (fun i k => if h : 30 ≤ i.val + s.val then glu (fun j => u V0 (ix3 b ⟨i + s - 30, by omega⟩ j)) k else 0)
        (fun i k => w V0 (ix2 i k)) (fun k => wb V0 (ix1 k)) (fun k => g V0 (ix1 k)) (fun k => bb V0 (ix1 k)) l := by
  rw [val5_main_v254]
  have h2 := norm_at V0 b s l
  simp only [conv_at, hp_at] at h2
  unfold a252 at h2
  generalize res_main_v252 V0 = X at h2 ⊢
  clean_types
  pointwise []
  rw [h2]
  rfl

end Cert.RefConvIdeal.Rows
end
-- ==== Proof.ConvClaim.lean ====
/- The kernel of the depthwise convolution computes what its reference computes. -/
module

public import proofs.«01_k».proof.Defs
public import proofs.«01_k».proof.Proof.ConvValue
public import proofs.«01_k».proof.Proof.ConvRef
public import Idealize.ShloMosaic.Lib.Claim
public import Idealize.ShloMosaic.Lib.Quiescent

@[expose] public section

set_option maxRecDepth 16384

noncomputable section

namespace Cert.ConvClaim

open Idealize.ShloMosaic Idealize.ShloMosaic.TcCoe Idealize.SL.Sem

/-- The two results are one array, from launch memories that agree on the arguments. -/
theorem algebraic : Cert.algebraic_ConvIdeal_RefConvIdeal := by
  pair_intro
  · run_from Cert.ConvIdeal.Gen.run_main m g
  · run_from Cert.RefConvIdeal.Value.run m' g'
    obtain ⟨h0, h1, h2, h3, h4⟩ := hagree c
    refine (RefConvIdeal.Value.val5_main_v254 (StableHlo.launchContents m' c)).symm.trans ?_
    refine Eq.trans ?_ (ConvIdeal.Final.final m c).symm
    have e0 : RefConvIdeal.Rows.u (StableHlo.launchContents m' c) = ConvIdeal.Final.u m c := h0
    have e1 : RefConvIdeal.Rows.w (StableHlo.launchContents m' c) = ConvIdeal.Final.w m c := h1
    have e2 : RefConvIdeal.Rows.wb (StableHlo.launchContents m' c) = ConvIdeal.Final.wb m c := h2
    have e3 : RefConvIdeal.Rows.g (StableHlo.launchContents m' c) = ConvIdeal.Final.g m c := h3
    have e4 : RefConvIdeal.Rows.bb (StableHlo.launchContents m' c) = ConvIdeal.Final.bb m c := h4
    funext j
    obtain ⟨b, s, l, rfl⟩ : ∃ (b : Fin 8) (s : Fin 8192) (l : Fin 256), j = ix3 b s l := ⟨j 0, j 1, j 2, eq_ix3 j⟩
    refine (RefConvIdeal.Rows.result_at _ b s l).trans ?_
    rw [e0, e1, e2, e3, e4]
    rfl

/-- The reference's run leaves its arguments as they were. -/
theorem reference_frame : Cert.quiescent_RefConvIdeal := by
  intro m g _
  exact (θ_run _ _ _).mono (fun r h => ⟨fun c => (h c).2, sem_eq_zero_of_no_sems (sig := Cert.RefConvIdeal.sig) (by decide) _⟩)
    (Cert.RefConvIdeal.Value.run m g)

end Cert.ConvClaim
end
-- ==== Proof.ProjRows.lean ====
/- The row mathematics of the input projection's call, and what each result of the kernel's body holds. -/
module

public import proofs.«01_k».proof.Proof.Gen.ProjIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjRows

open Idealize.ShloMosaic

/-- One token's 1024 numbers `x`, over their root mean square, times the gain `g`, at channel `k`. -/
def rms (x g : Fin 1024 → EReal) (k : Fin 1024) : EReal :=
  x k * Ideal.rsqrt (Ideal.div (∑ q, x q * x q) (Ideal.ofBits .f32 0x44800000#32) + Ideal.ofBits .f32 0x358637BD#32) * g k

end Cert.ProjRows

namespace Cert.ProjIdeal.Body
open Cert.ProjIdeal Cert.ProjIdeal.Gen Idealize.ShloMosaic Idealize.ShloMosaic.TcCoe Cert.ProjRows

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S256x1024 .bf16) (harg4 : arg4.IsWhole) (arg5 : Memref sig .tc .vmem S9x128 .f32) (harg5 : arg5.IsWhole) (arg6 : Memref sig .tc .vmem S8x512x128 .bf16) (harg6 : arg6.IsWhole) (arg7 : Memref sig .tc .vmem S1x2x256x512 .bf16) (harg7 : arg7.IsWhole) (arg8 : Memref sig .tc .vmem S1x2x128x512 .bf16) (harg8 : arg8.IsWhole) (arg9 : Memref sig .tc .vmem S1x2x512x128 .bf16) (harg9 : arg9.IsWhole) (arg10 : Memref sig .tc .vmem S1x2x512x128 .bf16) (harg10 : arg10.IsWhole) (arg11 : Memref sig .tc .vmem S512x256 .f32) (harg11 : arg11.IsWhole) (arg12 : Memref sig .tc .vmem S512x512 .f32) (harg12 : arg12.IsWhole) (arg13 : Memref sig .tc .vmem S512x768 .f32) (harg13 : arg13.IsWhole) (arg14 : Memref sig .tc .vmem S2x512x128 .f32) (harg14 : arg14.IsWhole)
    (x0 : Vec Ideal S512x1024 .f32) (x1 : Vec Ideal S1x1024 .f32) (x2 : Vec Ideal S1024x2560 .bf16) (x3 : Vec Ideal S256x1024 .bf16) (x4 : Vec Ideal S9x128 .f32)

/-- Row `r` of the block, normed, against column `n` of the gathered weight. -/
def dotw (r : Fin 512) (n : Fin 2560) : EReal :=
  ∑ k, rms (fun q => x0 (ix2 r q)) (fun q => x1 (ix2 0 q)) k * x2 (ix2 k n)

/-- Row `r` of the block, normed, against row `n` of the transposed key weight. -/
def dotk (n : Fin 256) (r : Fin 512) : EReal :=
  ∑ k, x3 (ix2 n k) * rms (fun q => x0 (ix2 r q)) (fun q => x1 (ix2 0 q)) k

/-- What a list of stores leaves at an index that the last one does not reach. -/
theorem skip {S : Shape} {e : EltTy} (off size : Fin S.rank → ℕ) (inb) (w : (Rect.unit off size inb).shape.Idx → Elt Ideal e) (L : List (View.Piece (Elt Ideal) S e)) (y : S.Idx)
    (a : Fin S.rank) (h : (y a : ℕ) < off a ∨ off a + size a ≤ y a) :
    View.canon ((⟨Rect.unit off size inb, w⟩ : View.Piece (Elt Ideal) S e) :: L) y = View.canon L y := by
  refine View.canon_cons_of_not_mem _ _ fun hm => ?_
  have h1 := (Rect.mem_set_unit (inb := inb)).mp hm a
  omega

/-- What a list of stores leaves at an index of the last one. -/
theorem hit {S : Shape} {e : EltTy} (off size : Fin S.rank → ℕ) (inb) (w : (Rect.unit off size inb).shape.Idx → Elt Ideal e) (L : List (View.Piece (Elt Ideal) S e)) (y : S.Idx)
    (x : (Rect.unit off size inb).shape.Idx) (h : ∀ a, (y a : ℕ) = off a + x a) :
    View.canon ((⟨Rect.unit off size inb, w⟩ : View.Piece (Elt Ideal) S e) :: L) y = w x := by
  have hy : y = (Rect.unit off size inb).emb x := by
    funext a
    apply Fin.ext
    rw [h a]
    show off a + (x a : ℕ) = off a + 1 * (x a : ℕ)
    omega
  rw [hy]
  exact View.canon_cons_emb _ _ _ _

/-- The normed block, at row `r`. -/
theorem pay2_at (r : Fin 512) (k : Fin 1024) : k0_pay2 x0 x1 (ix2 r k) = rms (fun q => x0 (ix2 r q)) (fun q => x1 (ix2 0 q)) k := by
  pointwise [k0_pay2, rms]

/-- The lower half of the lanes is told by a comparison that holds. -/
theorem low (l : Fin 64) : IntOp.cmpi CmpIPredicate.slt (BitVec.ofNat 32 l) 64#32 = 1#1 := by
  revert l
  decide

/-- A choice under a comparison that holds is its first branch. -/
theorem pick (l : Fin 64) (a b : EReal) : Scalar.select (IntOp.cmpi CmpIPredicate.slt (BitVec.ofNat 32 l) 64#32) a b = a := by
  rw [low]
  rfl

theorem out5_0 (r : Fin 512) (l : Fin 64) : out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix3 0 r ⟨l, by omega⟩) = dotw x0 x1 x2 r ⟨64 * 0 + l, by omega⟩ := by
  frame_out
  refine (skip _ _ _ _ _ _ 0 (Or.inl (by show 0 < 7; decide))).trans ?_
  refine (skip _ _ _ _ _ _ 0 (Or.inl (by show 0 < 6; decide))).trans ?_
  refine (skip _ _ _ _ _ _ 0 (Or.inl (by show 0 < 5; decide))).trans ?_
  refine (skip _ _ _ _ _ _ 0 (Or.inl (by show 0 < 4; decide))).trans ?_
  refine (skip _ _ _ _ _ _ 0 (Or.inl (by show 0 < 3; decide))).trans ?_
  refine (skip _ _ _ _ _ _ 0 (Or.inl (by show 0 < 2; decide))).trans ?_
  refine (skip _ _ _ _ _ _ 0 (Or.inl (by show 0 < 1; decide))).trans ?_
  refine (hit _ _ _ _ _ _ (ix3 0 r ⟨l, by omega⟩) (fun a => ?_)).trans ?_
  · fin_cases a <;> first | rfl | exact (Nat.zero_add _).symm
  pointwise [k0_pay5, k0_pay4, pay2_at, k0_pay3]
  rw [pick]
  exact congrArg (dotw x0 x1 x2 r) (Fin.ext (by first | rfl | (simp; done) | (simp; omega) | omega))

theorem out5_1 (r : Fin 512) (l : Fin 64) : out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix3 1 r ⟨l, by omega⟩) = dotw x0 x1 x2 r ⟨64 * 1 + l, by omega⟩ := by
  frame_out
  refine (skip _ _ _ _ _ _ 0 (Or.inl (by show 1 < 7; decide))).trans ?_
  refine (skip _ _ _ _ _ _ 0 (Or.inl (by show 1 < 6; decide))).trans ?_
  refine (skip _ _ _ _ _ _ 0 (Or.inl (by show 1 < 5; decide))).trans ?_
  refine (skip _ _ _ _ _ _ 0 (Or.inl (by show 1 < 4; decide))).trans ?_
  refine (skip _ _ _ _ _ _ 0 (Or.inl (by show 1 < 3; decide))).trans ?_
  refine (skip _ _ _ _ _ _ 0 (Or.inl (by show 1 < 2; decide))).trans ?_
  refine (hit _ _ _ _ _ _ (ix3 0 r ⟨l, by omega⟩) (fun a => ?_)).trans ?_
  · fin_cases a <;> first | rfl | exact (Nat.zero_add _).symm
  pointwise [k0_pay7, k0_pay6, k0_pay4, pay2_at, k0_pay3]
  rw [pick]
  exact congrArg (dotw x0 x1 x2 r) (Fin.ext (by first | rfl | (simp; done) | (simp; omega) | omega))

theorem out5_2 (r : Fin 512) (l : Fin 64) : out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix3 2 r ⟨l, by omega⟩) = dotw x0 x1 x2 r ⟨64 * 2 + l, by omega⟩ := by
  frame_out
  refine (skip _ _ _ _ _ _ 0 (Or.inl (by show 2 < 7; decide))).trans ?_
  refine (skip _ _ _ _ _ _ 0 (Or.inl (by show 2 < 6; decide))).trans ?_
  refine (skip _ _ _ _ _ _ 0 (Or.inl (by show 2 < 5; decide))).trans ?_
  refine (skip _ _ _ _ _ _ 0 (Or.inl (by show 2 < 4; decide))).trans ?_
  refine (skip _ _ _ _ _ _ 0 (Or.inl (by show 2 < 3; decide))).trans ?_
  refine (hit _ _ _ _ _ _ (ix3 0 r ⟨l, by omega⟩) (fun a => ?_)).trans ?_
  · fin_cases a <;> first | rfl | exact (Nat.zero_add _).symm
  pointwise [k0_pay8, k0_pay4, pay2_at, k0_pay3]
  rw [pick]
  exact congrArg (dotw x0 x1 x2 r) (Fin.ext (by first | rfl | (simp; done) | (simp; omega) | omega))

theorem out5_3 (r : Fin 512) (l : Fin 64) : out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix3 3 r ⟨l, by omega⟩) = dotw x0 x1 x2 r ⟨64 * 3 + l, by omega⟩ := by
  frame_out
  refine (skip _ _ _ _ _ _ 0 (Or.inl (by show 3 < 7; decide))).trans ?_
  refine (skip _ _ _ _ _ _ 0 (Or.inl (by show 3 < 6; decide))).trans ?_
  refine (skip _ _ _ _ _ _ 0 (Or.inl (by show 3 < 5; decide))).trans ?_
  refine (skip _ _ _ _ _ _ 0 (Or.inl (by show 3 < 4; decide))).trans ?_
  refine (hit _ _ _ _ _ _ (ix3 0 r ⟨l, by omega⟩) (fun a => ?_)).trans ?_
  · fin_cases a <;> first | rfl | exact (Nat.zero_add _).symm
  pointwise [k0_pay9, k0_pay4, pay2_at, k0_pay3]
  rw [pick]
  exact congrArg (dotw x0 x1 x2 r) (Fin.ext (by first | rfl | (simp; done) | (simp; omega) | omega))

theorem out5_4 (r : Fin 512) (l : Fin 64) : out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix3 4 r ⟨l, by omega⟩) = dotw x0 x1 x2 r ⟨64 * 4 + l, by omega⟩ := by
  frame_out
  refine (skip _ _ _ _ _ _ 0 (Or.inl (by show 4 < 7; decide))).trans ?_
  refine (skip _ _ _ _ _ _ 0 (Or.inl (by show 4 < 6; decide))).trans ?_
  refine (skip _ _ _ _ _ _ 0 (Or.inl (by show 4 < 5; decide))).trans ?_
  refine (hit _ _ _ _ _ _ (ix3 0 r ⟨l, by omega⟩) (fun a => ?_)).trans ?_
  · fin_cases a <;> first | rfl | exact (Nat.zero_add _).symm
  pointwise [k0_pay10, k0_pay4, pay2_at, k0_pay3]
  rw [pick]
  exact congrArg (dotw x0 x1 x2 r) (Fin.ext (by first | rfl | (simp; done) | (simp; omega) | omega))

theorem out5_5 (r : Fin 512) (l : Fin 64) : out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix3 5 r ⟨l, by omega⟩) = dotw x0 x1 x2 r ⟨64 * 5 + l, by omega⟩ := by
  frame_out
  refine (skip _ _ _ _ _ _ 0 (Or.inl (by show 5 < 7; decide))).trans ?_
  refine (skip _ _ _ _ _ _ 0 (Or.inl (by show 5 < 6; decide))).trans ?_
  refine (hit _ _ _ _ _ _ (ix3 0 r ⟨l, by omega⟩) (fun a => ?_)).trans ?_
  · fin_cases a <;> first | rfl | exact (Nat.zero_add _).symm
  pointwise [k0_pay12, k0_pay11, k0_pay4, pay2_at, k0_pay3]
  rw [pick]
  exact congrArg (dotw x0 x1 x2 r) (Fin.ext (by first | rfl | (simp; done) | (simp; omega) | omega))

theorem out5_6 (r : Fin 512) (l : Fin 64) : out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix3 6 r ⟨l, by omega⟩) = dotw x0 x1 x2 r ⟨64 * 6 + l, by omega⟩ := by
  frame_out
  refine (skip _ _ _ _ _ _ 0 (Or.inl (by show 6 < 7; decide))).trans ?_
  refine (hit _ _ _ _ _ _ (ix3 0 r ⟨l, by omega⟩) (fun a => ?_)).trans ?_
  · fin_cases a <;> first | rfl | exact (Nat.zero_add _).symm
  pointwise [k0_pay13, k0_pay4, pay2_at, k0_pay3]
  rw [pick]
  exact congrArg (dotw x0 x1 x2 r) (Fin.ext (by first | rfl | (simp; done) | (simp; omega) | omega))

theorem out5_7 (r : Fin 512) (l : Fin 64) : out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix3 7 r ⟨l, by omega⟩) = dotw x0 x1 x2 r ⟨64 * 7 + l, by omega⟩ := by
  frame_out
  refine (hit _ _ _ _ _ _ (ix3 0 r ⟨l, by omega⟩) (fun a => ?_)).trans ?_
  · fin_cases a <;> first | rfl | exact (Nat.zero_add _).symm
  pointwise [k0_pay14, k0_pay4, pay2_at, k0_pay3]
  rw [pick]
  exact congrArg (dotw x0 x1 x2 r) (Fin.ext (by first | rfl | (simp; done) | (simp; omega) | omega))

theorem out6_0 (a : Fin 64) (r : Fin 512) : out0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix4 0 0 ⟨a, by omega⟩ r) = dotk x0 x1 x3 ⟨0 + (64 * 0 + a), by omega⟩ r := by
  frame_out
  refine (skip _ _ _ _ _ _ 1 (Or.inl (by show 0 < 1; decide))).trans ?_
  refine (skip _ _ _ _ _ _ 1 (Or.inl (by show 0 < 1; decide))).trans ?_
  refine (skip _ _ _ _ _ _ 1 (Or.inl (by show 0 < 1; decide))).trans ?_
  refine (skip _ _ _ _ _ _ 2 (Or.inl (by show a.val < 128; omega))).trans ?_
  refine (skip _ _ _ _ _ _ 2 (Or.inl (by show a.val < 64; omega))).trans ?_
  refine (hit _ _ _ _ _ _ (ix4 0 0 a r) (fun a => ?_)).trans ?_
  · fin_cases a <;> first | rfl | exact (Nat.zero_add _).symm
  pointwise [k0_pay25, k0_pay21, pay2_at]
  exact congrArg (fun n => dotk x0 x1 x3 n r) (Fin.ext (by first | rfl | (simp; done) | (simp; omega) | omega))

theorem out6_1 (a : Fin 64) (r : Fin 512) : out0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix4 0 1 ⟨a, by omega⟩ r) = dotk x0 x1 x3 ⟨0 + (64 * 1 + a), by omega⟩ r := by
  frame_out
  refine (skip _ _ _ _ _ _ 2 (Or.inl (by show a.val < 128; omega))).trans ?_
  refine (skip _ _ _ _ _ _ 2 (Or.inl (by show a.val < 64; omega))).trans ?_
  refine (hit _ _ _ _ _ _ (ix4 0 0 a r) (fun a => ?_)).trans ?_
  · fin_cases a <;> first | rfl | exact (Nat.zero_add _).symm
  pointwise [k0_pay30, k0_pay21, pay2_at]
  exact congrArg (fun n => dotk x0 x1 x3 n r) (Fin.ext (by first | rfl | (simp; done) | (simp; omega) | omega))

theorem out7_0 (a : Fin 64) (r : Fin 512) : out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix4 0 0 ⟨a, by omega⟩ r) = dotk x0 x1 x3 ⟨128 + (64 * 0 + a), by omega⟩ r := by
  frame_out
  refine (skip _ _ _ _ _ _ 1 (Or.inl (by show 0 < 1; decide))).trans ?_
  refine (skip _ _ _ _ _ _ 1 (Or.inl (by show 0 < 1; decide))).trans ?_
  refine (skip _ _ _ _ _ _ 2 (Or.inl (by show a.val < 64; omega))).trans ?_
  refine (hit _ _ _ _ _ _ (ix4 0 0 a r) (fun a => ?_)).trans ?_
  · fin_cases a <;> first | rfl | exact (Nat.zero_add _).symm
  pointwise [k0_pay28, k0_pay21, pay2_at]
  exact congrArg (fun n => dotk x0 x1 x3 n r) (Fin.ext (by first | rfl | (simp; done) | (simp; omega) | omega))

theorem out7_1 (a : Fin 64) (r : Fin 512) : out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix4 0 1 ⟨a, by omega⟩ r) = dotk x0 x1 x3 ⟨128 + (64 * 1 + a), by omega⟩ r := by
  frame_out
  refine (skip _ _ _ _ _ _ 2 (Or.inl (by show a.val < 64; omega))).trans ?_
  refine (hit _ _ _ _ _ _ (ix4 0 0 a r) (fun a => ?_)).trans ?_
  · fin_cases a <;> first | rfl | exact (Nat.zero_add _).symm
  pointwise [k0_pay33, k0_pay21, pay2_at]
  exact congrArg (fun n => dotk x0 x1 x3 n r) (Fin.ext (by first | rfl | (simp; done) | (simp; omega) | omega))

theorem out8_0 (r : Fin 512) (l : Fin 64) : out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix4 0 0 r ⟨l, by omega⟩) = dotw x0 x1 x2 r ⟨512 + (64 * 0 + l), by omega⟩ := by
  frame_out
  refine (skip _ _ _ _ _ _ 1 (Or.inl (by show 0 < 1; decide))).trans ?_
  refine (hit _ _ _ _ _ _ (ix4 0 0 r ⟨l, by omega⟩) (fun a => ?_)).trans ?_
  · fin_cases a <;> first | rfl | exact (Nat.zero_add _).symm
  pointwise [k0_pay17, k0_pay16, k0_pay15, pay2_at, k0_pay3]
  rw [pick]
  exact congrArg (dotw x0 x1 x2 r) (Fin.ext (by first | rfl | (simp; done) | (simp; omega) | omega))

theorem out8_1 (r : Fin 512) (l : Fin 64) : out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix4 0 1 r ⟨l, by omega⟩) = dotw x0 x1 x2 r ⟨512 + (64 * 1 + l), by omega⟩ := by
  frame_out
  refine (hit _ _ _ _ _ _ (ix4 0 0 r ⟨l, by omega⟩) (fun a => ?_)).trans ?_
  · fin_cases a <;> first | rfl | exact (Nat.zero_add _).symm
  pointwise [k0_pay19, k0_pay15, pay2_at, k0_pay3]
  rw [pick]
  exact congrArg (dotw x0 x1 x2 r) (Fin.ext (by first | rfl | (simp; done) | (simp; omega) | omega))

theorem out9_0 (r : Fin 512) (l : Fin 64) : out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix4 0 0 r ⟨l, by omega⟩) = dotw x0 x1 x2 r ⟨640 + (64 * 0 + l), by omega⟩ := by
  frame_out
  refine (skip _ _ _ _ _ _ 1 (Or.inl (by show 0 < 1; decide))).trans ?_
  refine (hit _ _ _ _ _ _ (ix4 0 0 r ⟨l, by omega⟩) (fun a => ?_)).trans ?_
  · fin_cases a <;> first | rfl | exact (Nat.zero_add _).symm
  pointwise [k0_pay18, k0_pay15, pay2_at, k0_pay3]
  rw [pick]
  exact congrArg (dotw x0 x1 x2 r) (Fin.ext (by first | rfl | (simp; done) | (simp; omega) | omega))

theorem out9_1 (r : Fin 512) (l : Fin 64) : out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix4 0 1 r ⟨l, by omega⟩) = dotw x0 x1 x2 r ⟨640 + (64 * 1 + l), by omega⟩ := by
  frame_out
  refine (hit _ _ _ _ _ _ (ix4 0 0 r ⟨l, by omega⟩) (fun a => ?_)).trans ?_
  · fin_cases a <;> first | rfl | exact (Nat.zero_add _).symm
  pointwise [k0_pay20, k0_pay15, pay2_at, k0_pay3]
  rw [pick]
  exact congrArg (dotw x0 x1 x2 r) (Fin.ext (by first | rfl | (simp; done) | (simp; omega) | omega))

theorem out10_at (r : Fin 512) (l : Fin 256) : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix2 r l) = dotw x0 x1 x2 r ⟨768 + l, by omega⟩ := by
  frame_out
  pointwise [k0_pay35, pay2_at]
  exact congrArg (dotw x0 x1 x2 r) (Fin.ext (by first | rfl | (simp; done) | (simp; omega) | omega))

theorem out11_at (r : Fin 512) (l : Fin 512) : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix2 r l) = dotw x0 x1 x2 r ⟨1024 + l, by omega⟩ := by
  frame_out
  pointwise [k0_pay36, pay2_at]
  exact congrArg (dotw x0 x1 x2 r) (Fin.ext (by first | rfl | (simp; done) | (simp; omega) | omega))

theorem out12_at (r : Fin 512) (l : Fin 768) : out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix2 r l) = dotw x0 x1 x2 r ⟨1536 + l, by omega⟩ := by
  frame_out
  pointwise [k0_pay37, pay2_at]
  exact congrArg (dotw x0 x1 x2 r) (Fin.ext (by first | rfl | (simp; done) | (simp; omega) | omega))

theorem out13_0 (r : Fin 512) (l : Fin 128) : out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix3 0 r l) = dotw x0 x1 x2 r ⟨2304 + (128 * 0 + l), by omega⟩ := by
  frame_out
  refine (skip _ _ _ _ _ _ 0 (Or.inl (by show 0 < 1; decide))).trans ?_
  refine (hit _ _ _ _ _ _ (ix3 0 r l) (fun a => ?_)).trans ?_
  · fin_cases a <;> first | rfl | exact (Nat.zero_add _).symm
  pointwise [k0_pay39, k0_pay38, pay2_at]
  exact congrArg (dotw x0 x1 x2 r) (Fin.ext (by first | rfl | (simp; done) | (simp; omega) | omega))

theorem out13_1 (r : Fin 512) (l : Fin 128) : out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix3 1 r l) = dotw x0 x1 x2 r ⟨2304 + (128 * 1 + l), by omega⟩ := by
  frame_out
  refine (hit _ _ _ _ _ _ (ix3 0 r l) (fun a => ?_)).trans ?_
  · fin_cases a <;> first | rfl | exact (Nat.zero_add _).symm
  pointwise [k0_pay1, k0_pay40, k0_pay38, pay2_at]
  exact congrArg (dotw x0 x1 x2 r) (Fin.ext (by first | rfl | (simp; done) | (simp; omega) | omega))

/-- Window 5's block, head by head. -/
theorem out5_at (hd : Fin 8) (r : Fin 512) (l : Fin 64) : out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix3 hd r ⟨l, by omega⟩) = dotw x0 x1 x2 r ⟨64 * hd + l, by omega⟩ :=
  match hd with
  | 0 => (out5_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)
  | 1 => (out5_1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)
  | 2 => (out5_2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)
  | 3 => (out5_3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)
  | 4 => (out5_4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)
  | 5 => (out5_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)
  | 6 => (out5_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)
  | 7 => (out5_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)

/-- Window 6's block, head by head. -/
theorem out6_at (hd : Fin 2) (a : Fin 64) (r : Fin 512) : out0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix4 0 hd ⟨a, by omega⟩ r) = dotk x0 x1 x3 ⟨0 + (64 * hd + a), by omega⟩ r :=
  match hd with
  | 0 => (out6_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  a r)
  | 1 => (out6_1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  a r)

/-- Window 7's block, head by head. -/
theorem out7_at (hd : Fin 2) (a : Fin 64) (r : Fin 512) : out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix4 0 hd ⟨a, by omega⟩ r) = dotk x0 x1 x3 ⟨128 + (64 * hd + a), by omega⟩ r :=
  match hd with
  | 0 => (out7_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  a r)
  | 1 => (out7_1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  a r)

/-- Window 8's block, head by head. -/
theorem out8_at (hd : Fin 2) (r : Fin 512) (l : Fin 64) : out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix4 0 hd r ⟨l, by omega⟩) = dotw x0 x1 x2 r ⟨512 + (64 * hd + l), by omega⟩ :=
  match hd with
  | 0 => (out8_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)
  | 1 => (out8_1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)

/-- Window 9's block, head by head. -/
theorem out9_at (hd : Fin 2) (r : Fin 512) (l : Fin 64) : out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix4 0 hd r ⟨l, by omega⟩) = dotw x0 x1 x2 r ⟨640 + (64 * hd + l), by omega⟩ :=
  match hd with
  | 0 => (out9_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)
  | 1 => (out9_1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)

/-- Window 13's block, head by head. -/
theorem out13_at (hd : Fin 2) (r : Fin 512) (l : Fin 128) : out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 (ix3 hd r l) = dotw x0 x1 x2 r ⟨2304 + (128 * hd + l), by omega⟩ :=
  match hd with
  | 0 => (out13_0 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)
  | 1 => (out13_1 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4  r l)

end Cert.ProjIdeal.Body
end
-- ==== Proof.ProjHost.lean ====
/- The arrays of the input projection's call after the kernel's run: token by token, the columns of the normed token times the weight. -/
module

public import proofs.«01_k».proof.Proof.ProjRows
public import proofs.«01_k».proof.Proof.Gen.ProjIdeal.Run

@[expose] public section

set_option maxRecDepth 16384

noncomputable section

namespace Cert.ProjIdeal.Final
open Cert.ProjIdeal Cert.ProjIdeal.Gen Idealize.ShloMosaic Idealize.ShloMosaic.TcCoe Idealize.SL.Sem Cert.ProjRows

variable (m : (ℓ : Loc nD τ sig) → Buf (Elt Ideal) ℓ)

/-- Every input window's block at every grid point: the tokens move with the point, the rest is whole. -/
theorem idx : ∀ t : Fin cfg0.N, win0_0.index t = ![t.val, 0] ∧ win0_1.index t = ![0, 0]
    ∧ win0_2.index t = ![0, 0] ∧ win0_3.index t = ![0, 0] ∧ win0_4.index t = ![0, 0] :=
  (by decide +kernel : ∀ t : Fin grid0.N, _)

/-- Every output window's block at every grid point. -/
theorem odx : ∀ t : Fin cfg0.N, win0_5.index t = ![0, t.val, 0] ∧ win0_6.index t = ![t.val / 16, 0, 0, t.val % 16]
    ∧ win0_7.index t = ![t.val / 16, 0, 0, t.val % 16] ∧ win0_8.index t = ![t.val / 16, 0, t.val % 16, 0] ∧ win0_9.index t = ![t.val / 16, 0, t.val % 16, 0]
    ∧ win0_10.index t = ![t.val, 0] ∧ win0_11.index t = ![t.val, 0] ∧ win0_12.index t = ![t.val, 0] ∧ win0_13.index t = ![0, t.val, 0] :=
  (by decide +kernel : ∀ t : Fin grid0.N, _)

variable (c : Dev nD)

abbrev x : Vec Ideal S8x8192x1024 .f32 := m ((c : Thread nD τ).loc main_arg0)
abbrev g : Vec Ideal S1024 .f32 := m ((c : Thread nD τ).loc main_arg1)
abbrev w : Vec Ideal S1024x2600 .f32 := m ((c : Thread nD τ).loc main_arg2)

/-- Token `r`, normed, at channel `k`. -/
def nrm (r : Fin 65536) (k : Fin 1024) : EReal :=
  rms (fun q => x m c (ix3 ⟨r / 8192, by omega⟩ ⟨r % 8192, by omega⟩ q)) (fun q => g m c (ix1 q)) k

/-- The flattened tokens, as the call finds them. -/
theorem v21_at (r : Fin 65536) (k : Fin 1024) : (V m c main_v21 : Vec Ideal S65536x1024 .f32) (ix2 r k) = x m c (ix3 ⟨r / 8192, by omega⟩ ⟨r % 8192, by omega⟩ k) := by
  unfold V V0
  simp only [hostOps0, List.flatten_cons, List.flatten_nil, List.append_nil, List.cons_append, List.nil_append]
  after_results_simp
  pointwise []
theorem v22_at (k : Fin 1024) : (V m c main_v22 : Vec Ideal S1x1024 .f32) (ix2 0 k) = g m c (ix1 k) := by
  unfold V V0
  simp only [hostOps0, List.flatten_cons, List.flatten_nil, List.append_nil, List.cons_append, List.nil_append]
  after_results_simp
  pointwise []
/-- The gathered weight: runs of the weight's columns side by side, the query's scaled, zeros between. -/
def WALL : Vec Ideal S1024x2560 .f32 :=
  concatenate S1024x2560 1 [⟨S1024x512, mulf (F := Ideal) (extractStridedSlice S1024x512 ![0, 0] (w m c) slices_S1024x2600_S1024x512_0_0) (broadcastInDim S1024x512 ![] bcast_S_S1024x512 (constant (F := Ideal) S_ .f32 0x3E000000#32))⟩,
    ⟨S1024x128, (extractStridedSlice S1024x128 ![0, 896] (w m c) slices_S1024x2600_S1024x128_0_896)⟩,
    ⟨S1024x128, (extractStridedSlice S1024x128 ![0, 1152] (w m c) slices_S1024x2600_S1024x128_0_1152)⟩,
    ⟨S1024x256, (extractStridedSlice S1024x256 ![0, 512] (w m c) slices_S1024x2600_S1024x256_0_512)⟩,
    ⟨S1024x1024, (extractStridedSlice S1024x1024 ![0, 1304] (w m c) slices_S1024x2600_S1024x1024_0_1304)⟩,
    ⟨S1024x256, (extractStridedSlice S1024x256 ![0, 2344] (w m c) slices_S1024x2600_S1024x256_0_2344)⟩,
    ⟨S1024x12, (extractStridedSlice S1024x12 ![0, 1280] (w m c) slices_S1024x2600_S1024x12_0_1280)⟩,
    ⟨S1024x4, (broadcastInDim S1024x4 ![] bcast_S_S1024x4 (constant (F := Ideal) S_ .f32 0x00000000#32))⟩,
    ⟨S1024x16, (extractStridedSlice S1024x16 ![0, 2328] (w m c) slices_S1024x2600_S1024x16_0_2328)⟩,
    ⟨S1024x96, (broadcastInDim S1024x96 ![] bcast_S_S1024x96 (constant (F := Ideal) S_ .f32 0x00000000#32))⟩,
    ⟨S1024x12, (extractStridedSlice S1024x12 ![0, 1292] (w m c) slices_S1024x2600_S1024x12_0_1292)⟩,
    ⟨S1024x116, (broadcastInDim S1024x116 ![] bcast_S_S1024x116 (constant (F := Ideal) S_ .f32 0x00000000#32))⟩]
    concatenates_S1024x512_S1024x128_S1024x128_S1024x256_S1024x1024_S1024x256_S1024x12_S1024x4_S1024x16_S1024x96_S1024x12_S1024x116_S1024x2560_d1

theorem v15_eq : (V m c main_v15 : Vec Ideal S1024x2560 .bf16) = truncf (F := Ideal) .bf16 (WALL m c) bitsLt_bf16_f32 := by
  unfold V V0
  simp only [hostOps0, List.flatten_cons, List.flatten_nil, List.append_nil, List.cons_append, List.nil_append]
  after_results <;> rfl

/-- Channel `k` of the gathered weight's query columns: the weight's own, times the scale. -/
theorem v15_q (k : Fin 1024) (n : Fin 512) : (V m c main_v15 : Vec Ideal S1024x2560 .bf16) (ix2 k ⟨n, by omega⟩)
   = w m c (ix2 k ⟨n, by omega⟩) * Ideal.ofBits .f32 0x3E000000#32 := by
  rw [v15_eq]
  pointwise [WALL]
theorem v15_vs (k : Fin 1024) (n : Fin 128) : (V m c main_v15 : Vec Ideal S1024x2560 .bf16) (ix2 k ⟨512 + n, by omega⟩)
   = w m c (ix2 k ⟨896 + n, by omega⟩) := by
  rw [v15_eq]
  pointwise [WALL]
  all_goals
    repeat (first | rw [dif_neg (by omega)] | rw [dif_pos (by omega)])
    exact congrArg (fun z => w m c (ix2 k z)) (Fin.ext (by show _ + _ = _ + _; omega))
theorem v15_vw (k : Fin 1024) (n : Fin 128) : (V m c main_v15 : Vec Ideal S1024x2560 .bf16) (ix2 k ⟨640 + n, by omega⟩)
   = w m c (ix2 k ⟨1152 + n, by omega⟩) := by
  rw [v15_eq]
  pointwise [WALL]
  all_goals
    repeat (first | rw [dif_neg (by omega)] | rw [dif_pos (by omega)])
    exact congrArg (fun z => w m c (ix2 k z)) (Fin.ext (by show _ + _ = _ + _; omega))
theorem v15_kvc (k : Fin 1024) (n : Fin 256) : (V m c main_v15 : Vec Ideal S1024x2560 .bf16) (ix2 k ⟨768 + n, by omega⟩)
   = w m c (ix2 k ⟨512 + n, by omega⟩) := by
  rw [v15_eq]
  pointwise [WALL]
  all_goals
    repeat (first | rw [dif_neg (by omega)] | rw [dif_pos (by omega)])
    exact congrArg (fun z => w m c (ix2 k z)) (Fin.ext (by show _ + _ = _ + _; omega))
theorem v15_cg (k : Fin 1024) (n : Fin 1024) : (V m c main_v15 : Vec Ideal S1024x2560 .bf16) (ix2 k ⟨1024 + n, by omega⟩)
   = w m c (ix2 k ⟨1304 + n, by omega⟩) := by
  rw [v15_eq]
  pointwise [WALL]
  all_goals
    repeat (first | rw [dif_neg (by omega)] | rw [dif_pos (by omega)])
    exact congrArg (fun z => w m c (ix2 k z)) (Fin.ext (by show _ + _ = _ + _; omega))
theorem v15_gr (k : Fin 1024) (n : Fin 256) : (V m c main_v15 : Vec Ideal S1024x2560 .bf16) (ix2 k ⟨2048 + n, by omega⟩)
   = w m c (ix2 k ⟨2344 + n, by omega⟩) := by
  rw [v15_eq]
  pointwise [WALL]
  all_goals
    repeat (first | rw [dif_neg (by omega)] | rw [dif_pos (by omega)])
    exact congrArg (fun z => w m c (ix2 k z)) (Fin.ext (by show _ + _ = _ + _; omega))
theorem v15_n0 (k : Fin 1024) (n : Fin 12) : (V m c main_v15 : Vec Ideal S1024x2560 .bf16) (ix2 k ⟨2304 + n, by omega⟩)
   = w m c (ix2 k ⟨1280 + n, by omega⟩) := by
  rw [v15_eq]
  pointwise [WALL]
  all_goals
    repeat (first | rw [dif_neg (by omega)] | rw [dif_pos (by omega)])
    exact congrArg (fun z => w m c (ix2 k z)) (Fin.ext (by show _ + _ = _ + _; omega))
theorem v15_ga (k : Fin 1024) (n : Fin 16) : (V m c main_v15 : Vec Ideal S1024x2560 .bf16) (ix2 k ⟨2320 + n, by omega⟩)
   = w m c (ix2 k ⟨2328 + n, by omega⟩) := by
  rw [v15_eq]
  pointwise [WALL]
  all_goals
    repeat (first | rw [dif_neg (by omega)] | rw [dif_pos (by omega)])
    exact congrArg (fun z => w m c (ix2 k z)) (Fin.ext (by show _ + _ = _ + _; omega))
theorem v15_n1 (k : Fin 1024) (n : Fin 12) : (V m c main_v15 : Vec Ideal S1024x2560 .bf16) (ix2 k ⟨2432 + n, by omega⟩)
   = w m c (ix2 k ⟨1292 + n, by omega⟩) := by
  rw [v15_eq]
  pointwise [WALL]
  all_goals
    repeat (first | rw [dif_neg (by omega)] | rw [dif_pos (by omega)])
    exact congrArg (fun z => w m c (ix2 k z)) (Fin.ext (by show _ + _ = _ + _; omega))
theorem v20_s (k : Fin 1024) (n : Fin 128) : (V m c main_v20 : Vec Ideal S256x1024 .bf16) (ix2 ⟨0 + n, by omega⟩ k)
   = w m c (ix2 k ⟨768 + n, by omega⟩) := by
  unfold V V0
  simp only [hostOps0, List.flatten_cons, List.flatten_nil, List.append_nil, List.cons_append, List.nil_append]
  after_results_simp
  pointwise []
  after_results_simp
  pointwise []
theorem v20_w (k : Fin 1024) (n : Fin 128) : (V m c main_v20 : Vec Ideal S256x1024 .bf16) (ix2 ⟨128 + n, by omega⟩ k)
   = w m c (ix2 k ⟨1024 + n, by omega⟩) := by
  unfold V V0
  simp only [hostOps0, List.flatten_cons, List.flatten_nil, List.append_nil, List.cons_append, List.nil_append]
  after_results_simp
  pointwise []
  after_results_simp
  pointwise []

end Cert.ProjIdeal.Final
end
-- ==== Proof.ProjValue.lean ====
/- The arrays of the input projection's call after the kernel's run: token by token, the columns of the normed token times the weight. -/
module

public import proofs.«01_k».proof.Proof.ProjHost
public import proofs.«01_k».proof.Proof.Gen.ProjIdeal.Run

@[expose] public section

set_option maxRecDepth 16384

noncomputable section

namespace Cert.ProjIdeal.Final
open Cert.ProjIdeal Cert.ProjIdeal.Gen Idealize.ShloMosaic Idealize.ShloMosaic.TcCoe Idealize.SL.Sem Cert.ProjRows

variable (m : (ℓ : Loc nD τ sig) → Buf (Elt Ideal) ℓ)

variable (c : Dev nD)

theorem b0 (t : Fin cfg0.N) (r : Fin 512) (k : Fin 1024) : (iblk m c 0 t : Vec Ideal S512x1024 .f32) (ix2 r k)
    = x m c (ix3 ⟨(t.val * 512 + r) / 8192, by have : t.val < 128 := t.isLt; omega⟩ ⟨(t.val * 512 + r) % 8192, by omega⟩ k) := by
  have he : (win0_0.blk t).view.emb (ix2 r k) = (ix2 (⟨t.val * 512 + r, by have : t.val < 128 := t.isLt; omega⟩ : Fin 65536) k : S65536x1024.Idx) := by
    funext z
    match z with
    | ⟨0, _⟩ => apply Fin.ext; blk_simp [idx t]
    | ⟨1, _⟩ => apply Fin.ext; blk_simp [idx t]
  exact (congrArg (V m c main_v21) he).trans (v21_at m c _ k)
theorem b1 (t : Fin cfg0.N) (k : Fin 1024) : (iblk m c 1 t : Vec Ideal S1x1024 .f32) (ix2 0 k) = g m c (ix1 k) := by
  have he : (win0_1.blk t).view.emb (ix2 0 k) = (ix2 0 k : S1x1024.Idx) := by
    funext z
    match z with
    | ⟨0, _⟩ => apply Fin.ext; blk_simp [idx t]
    | ⟨1, _⟩ => apply Fin.ext; blk_simp [idx t]
  exact (congrArg (V m c main_v22) he).trans (v22_at m c k)
theorem b2 (t : Fin cfg0.N) (k : Fin 1024) (n : Fin 2560) : (iblk m c 2 t : Vec Ideal S1024x2560 .bf16) (ix2 k n) = (V m c main_v15 : Vec Ideal S1024x2560 .bf16) (ix2 k n) := by
  have he : (win0_2.blk t).view.emb (ix2 k n) = (ix2 k n : S1024x2560.Idx) := by
    funext z
    match z with
    | ⟨0, _⟩ => apply Fin.ext; blk_simp [idx t]
    | ⟨1, _⟩ => apply Fin.ext; blk_simp [idx t]
  exact congrArg (V m c main_v15) he
theorem b3 (t : Fin cfg0.N) (n : Fin 256) (k : Fin 1024) : (iblk m c 3 t : Vec Ideal S256x1024 .bf16) (ix2 n k) = (V m c main_v20 : Vec Ideal S256x1024 .bf16) (ix2 n k) := by
  have he : (win0_3.blk t).view.emb (ix2 n k) = (ix2 n k : S256x1024.Idx) := by
    funext z
    match z with
    | ⟨0, _⟩ => apply Fin.ext; blk_simp [idx t]
    | ⟨1, _⟩ => apply Fin.ext; blk_simp [idx t]
  exact congrArg (V m c main_v20) he

/-- Token `r`, normed, against column `n` of the weight. -/
def col (r : Fin 65536) (n : Fin 2600) : EReal := ∑ k, nrm m c r k * w m c (ix2 k n)
/-- Token `r`'s query column, scaled. -/
def qcol (r : Fin 65536) (n : Fin 512) : EReal := ∑ k, nrm m c r k * (w m c (ix2 k ⟨n, by omega⟩) * Ideal.ofBits .f32 0x3E000000#32)
/-- Token `r`, normed, against column `n` of the gathered weight. -/
def gcol (r : Fin 65536) (n : Fin 2560) : EReal := ∑ k, nrm m c r k * (V m c main_v15 : Vec Ideal S1024x2560 .bf16) (ix2 k n)
/-- Token `r`, normed, against row `n` of the transposed key weight. -/
def kcol (r : Fin 65536) (n : Fin 256) : EReal := ∑ k, nrm m c r k * (V m c main_v20 : Vec Ideal S256x1024 .bf16) (ix2 n k)

theorem dotw_eq (t : Fin cfg0.N) (r : Fin 512) (n : Fin 2560) : Body.dotw (iblk m c 0 t) (iblk m c 1 t) (iblk m c 2 t) r n
    = gcol m c ⟨t.val * 512 + r, by have : t.val < 128 := t.isLt; omega⟩ n := by
  unfold Body.dotw gcol nrm
  simp only [b0, b1, b2]
theorem dotk_eq (t : Fin cfg0.N) (r : Fin 512) (n : Fin 256) : Body.dotk (iblk m c 0 t) (iblk m c 1 t) (iblk m c 3 t) n r
    = kcol m c ⟨t.val * 512 + r, by have : t.val < 128 := t.isLt; omega⟩ n := by
  unfold Body.dotk kcol nrm
  simp only [b0, b1, b3]
  exact Finset.sum_congr rfl fun k _ => mul_comm _ _

/-- Column `n` of the gathered weight against token `r` (zero past the last column). -/
def gc (r : Fin 65536) (n : ℕ) : EReal := if h : n < 2560 then gcol m c r ⟨n, h⟩ else 0
/-- Row `n` of the transposed key weight against token `r` (zero past the last row). -/
def kc (r : Fin 65536) (n : ℕ) : EReal := if h : n < 256 then kcol m c r ⟨n, h⟩ else 0
/-- Token `s` of sequence `b`. -/
def tok (b : Fin 8) (s : Fin 8192) : Fin 65536 := ⟨b * 8192 + s, by omega⟩

/-- Window 5's array, index by index. -/
def RES5 : Vec Ideal S8x65536x128 .bf16 := fun j => gc m c (j 1) (64 * (j 0).val + (j 2).val)

/-- Window 5's array after the whole grid, on the lanes that are kept. -/
theorem final5 (i : S8x65536x128.Idx) (hi : (i 2).val < 64) : ((dats m 0 c).arrAt 5 (cfgs 0).N : Vec Ideal S8x65536x128 .bf16) i = RES5 m c i := by
  refine ((dats m 0 c).arrAt_forall_of_covers 5 (fun i v => ((i 2).val < 64) → v = RES5 m c i) (by decide +kernel) (fun t _ y => ?_) i) hi
  intro hl
  have ht : t.val < 128 := t.isLt
  blk_simp
  rw [after0_5]
  unfold outsAt0
  dsimp only
  obtain ⟨a0, a1, a2, rfl⟩ : ∃ (a0 : Fin 8) (a1 : Fin 512) (a2 : Fin 128), y = ix3 a0 a1 a2 := ⟨y 0, y 1, y 2, eq_ix3 y⟩
  have h0 : (((cfg0.win 5).blk t).view.emb (ix3 a0 a1 a2)) 0 = (a0 : Fin 8) := by apply Fin.ext; blk_simp [odx t]; try simp
  have h1 : (((cfg0.win 5).blk t).view.emb (ix3 a0 a1 a2)) 1 = (⟨t.val * 512 + a1.val, by omega⟩ : Fin 65536) := by apply Fin.ext; blk_simp [odx t]; try simp
  have h2 : (((cfg0.win 5).blk t).view.emb (ix3 a0 a1 a2)) 2 = (a2 : Fin 128) := by apply Fin.ext; blk_simp [odx t]; try simp
  unfold RES5
  rw [h0, h1, h2]
  rw [h2] at hl
  have hex : ∃ l : Fin 64, a2 = ⟨l, Nat.lt_of_lt_of_le l.isLt (by decide)⟩ := ⟨⟨a2, hl⟩, rfl⟩
  clear hl
  obtain ⟨l, rfl⟩ := hex
  refine (Body.out5_at ..).trans ?_
  refine (dotw_eq m c t a1 _).trans ?_
  unfold gc
  rw [dif_pos (by show 64 * a0.val + l.val < 2560; omega)]

/-- Window 6's array, index by index. -/
def RES6 : Vec Ideal S8x2x256x8192 .bf16 := fun j => kc m c (tok (j 0) (j 3)) (0 + (64 * (j 1).val + (j 2).val))

/-- Window 6's array after the whole grid, on the lanes that are kept. -/
theorem final6 (i : S8x2x256x8192.Idx) (hi : (i 2).val < 64) : ((dats m 0 c).arrAt 6 (cfgs 0).N : Vec Ideal S8x2x256x8192 .bf16) i = RES6 m c i := by
  refine ((dats m 0 c).arrAt_forall_of_covers 6 (fun i v => ((i 2).val < 64) → v = RES6 m c i) (by decide +kernel) (fun t _ y => ?_) i) hi
  intro hl
  have ht : t.val < 128 := t.isLt
  blk_simp
  rw [after0_6]
  unfold outsAt0
  dsimp only
  obtain ⟨a0, a1, a2, a3, rfl⟩ : ∃ (a0 : Fin 1) (a1 : Fin 2) (a2 : Fin 256) (a3 : Fin 512), y = ix4 a0 a1 a2 a3 := ⟨y 0, y 1, y 2, y 3, eq_ix4 y⟩
  obtain rfl : a0 = 0 := Subsingleton.elim _ _
  have h0 : (((cfg0.win 6).blk t).view.emb (ix4 0 a1 a2 a3)) 0 = (⟨t.val / 16, by omega⟩ : Fin 8) := by apply Fin.ext; blk_simp [odx t]; try simp
  have h1 : (((cfg0.win 6).blk t).view.emb (ix4 0 a1 a2 a3)) 1 = (a1 : Fin 2) := by apply Fin.ext; blk_simp [odx t]; try simp
  have h2 : (((cfg0.win 6).blk t).view.emb (ix4 0 a1 a2 a3)) 2 = (a2 : Fin 256) := by apply Fin.ext; blk_simp [odx t]; try simp
  have h3 : (((cfg0.win 6).blk t).view.emb (ix4 0 a1 a2 a3)) 3 = (⟨t.val % 16 * 512 + a3.val, by omega⟩ : Fin 8192) := by apply Fin.ext; blk_simp [odx t]; try simp
  unfold RES6
  rw [h0, h1, h2, h3]
  rw [h2] at hl
  have hex : ∃ l : Fin 64, a2 = ⟨l, Nat.lt_of_lt_of_le l.isLt (by decide)⟩ := ⟨⟨a2, hl⟩, rfl⟩
  clear hl
  obtain ⟨l, rfl⟩ := hex
  refine (Body.out6_at ..).trans ?_
  have hk : tok (⟨t.val / 16, by omega⟩ : Fin 8) (⟨t.val % 16 * 512 + a3.val, by omega⟩ : Fin 8192) = ⟨t.val * 512 + a3.val, by omega⟩ := by
    unfold tok
    apply Fin.ext
    show t.val / 16 * 8192 + (t.val % 16 * 512 + a3.val) = t.val * 512 + a3.val
    omega
  rw [hk]
  refine (dotk_eq m c t a3 _).trans ?_
  unfold kc
  rw [dif_pos (by show 0 + (64 * a1.val + l.val) < 256; omega)]

/-- Window 7's array, index by index. -/
def RES7 : Vec Ideal S8x2x128x8192 .bf16 := fun j => kc m c (tok (j 0) (j 3)) (128 + (64 * (j 1).val + (j 2).val))

/-- Window 7's array after the whole grid, on the lanes that are kept. -/
theorem final7 (i : S8x2x128x8192.Idx) (hi : (i 2).val < 64) : ((dats m 0 c).arrAt 7 (cfgs 0).N : Vec Ideal S8x2x128x8192 .bf16) i = RES7 m c i := by
  refine ((dats m 0 c).arrAt_forall_of_covers 7 (fun i v => ((i 2).val < 64) → v = RES7 m c i) (by decide +kernel) (fun t _ y => ?_) i) hi
  intro hl
  have ht : t.val < 128 := t.isLt
  blk_simp
  rw [after0_7]
  unfold outsAt0
  dsimp only
  obtain ⟨a0, a1, a2, a3, rfl⟩ : ∃ (a0 : Fin 1) (a1 : Fin 2) (a2 : Fin 128) (a3 : Fin 512), y = ix4 a0 a1 a2 a3 := ⟨y 0, y 1, y 2, y 3, eq_ix4 y⟩
  obtain rfl : a0 = 0 := Subsingleton.elim _ _
  have h0 : (((cfg0.win 7).blk t).view.emb (ix4 0 a1 a2 a3)) 0 = (⟨t.val / 16, by omega⟩ : Fin 8) := by apply Fin.ext; blk_simp [odx t]; try simp
  have h1 : (((cfg0.win 7).blk t).view.emb (ix4 0 a1 a2 a3)) 1 = (a1 : Fin 2) := by apply Fin.ext; blk_simp [odx t]; try simp
  have h2 : (((cfg0.win 7).blk t).view.emb (ix4 0 a1 a2 a3)) 2 = (a2 : Fin 128) := by apply Fin.ext; blk_simp [odx t]; try simp
  have h3 : (((cfg0.win 7).blk t).view.emb (ix4 0 a1 a2 a3)) 3 = (⟨t.val % 16 * 512 + a3.val, by omega⟩ : Fin 8192) := by apply Fin.ext; blk_simp [odx t]; try simp
  unfold RES7
  rw [h0, h1, h2, h3]
  rw [h2] at hl
  have hex : ∃ l : Fin 64, a2 = ⟨l, Nat.lt_of_lt_of_le l.isLt (by decide)⟩ := ⟨⟨a2, hl⟩, rfl⟩
  clear hl
  obtain ⟨l, rfl⟩ := hex
  refine (Body.out7_at ..).trans ?_
  have hk : tok (⟨t.val / 16, by omega⟩ : Fin 8) (⟨t.val % 16 * 512 + a3.val, by omega⟩ : Fin 8192) = ⟨t.val * 512 + a3.val, by omega⟩ := by
    unfold tok
    apply Fin.ext
    show t.val / 16 * 8192 + (t.val % 16 * 512 + a3.val) = t.val * 512 + a3.val
    omega
  rw [hk]
  refine (dotk_eq m c t a3 _).trans ?_
  unfold kc
  rw [dif_pos (by show 128 + (64 * a1.val + l.val) < 256; omega)]

/-- Window 8's array, index by index. -/
def RES8 : Vec Ideal S8x2x8192x128 .bf16 := fun j => gc m c (tok (j 0) (j 2)) (512 + (64 * (j 1).val + (j 3).val))

/-- Window 8's array after the whole grid, on the lanes that are kept. -/
theorem final8 (i : S8x2x8192x128.Idx) (hi : (i 3).val < 64) : ((dats m 0 c).arrAt 8 (cfgs 0).N : Vec Ideal S8x2x8192x128 .bf16) i = RES8 m c i := by
  refine ((dats m 0 c).arrAt_forall_of_covers 8 (fun i v => ((i 3).val < 64) → v = RES8 m c i) (by decide +kernel) (fun t _ y => ?_) i) hi
  intro hl
  have ht : t.val < 128 := t.isLt
  blk_simp
  rw [after0_8]
  unfold outsAt0
  dsimp only
  obtain ⟨a0, a1, a2, a3, rfl⟩ : ∃ (a0 : Fin 1) (a1 : Fin 2) (a2 : Fin 512) (a3 : Fin 128), y = ix4 a0 a1 a2 a3 := ⟨y 0, y 1, y 2, y 3, eq_ix4 y⟩
  obtain rfl : a0 = 0 := Subsingleton.elim _ _
  have h0 : (((cfg0.win 8).blk t).view.emb (ix4 0 a1 a2 a3)) 0 = (⟨t.val / 16, by omega⟩ : Fin 8) := by apply Fin.ext; blk_simp [odx t]; try simp
  have h1 : (((cfg0.win 8).blk t).view.emb (ix4 0 a1 a2 a3)) 1 = (a1 : Fin 2) := by apply Fin.ext; blk_simp [odx t]; try simp
  have h2 : (((cfg0.win 8).blk t).view.emb (ix4 0 a1 a2 a3)) 2 = (⟨t.val % 16 * 512 + a2.val, by omega⟩ : Fin 8192) := by apply Fin.ext; blk_simp [odx t]; try simp
  have h3 : (((cfg0.win 8).blk t).view.emb (ix4 0 a1 a2 a3)) 3 = (a3 : Fin 128) := by apply Fin.ext; blk_simp [odx t]; try simp
  unfold RES8
  rw [h0, h1, h2, h3]
  rw [h3] at hl
  have hex : ∃ l : Fin 64, a3 = ⟨l, Nat.lt_of_lt_of_le l.isLt (by decide)⟩ := ⟨⟨a3, hl⟩, rfl⟩
  clear hl
  obtain ⟨l, rfl⟩ := hex
  refine (Body.out8_at ..).trans ?_
  have hk : tok (⟨t.val / 16, by omega⟩ : Fin 8) (⟨t.val % 16 * 512 + a2.val, by omega⟩ : Fin 8192) = ⟨t.val * 512 + a2.val, by omega⟩ := by
    unfold tok
    apply Fin.ext
    show t.val / 16 * 8192 + (t.val % 16 * 512 + a2.val) = t.val * 512 + a2.val
    omega
  rw [hk]
  refine (dotw_eq m c t a2 _).trans ?_
  unfold gc
  rw [dif_pos (by show 512 + (64 * a1.val + l.val) < 2560; omega)]

/-- Window 9's array, index by index. -/
def RES9 : Vec Ideal S8x2x8192x128 .bf16 := fun j => gc m c (tok (j 0) (j 2)) (640 + (64 * (j 1).val + (j 3).val))

/-- Window 9's array after the whole grid, on the lanes that are kept. -/
theorem final9 (i : S8x2x8192x128.Idx) (hi : (i 3).val < 64) : ((dats m 0 c).arrAt 9 (cfgs 0).N : Vec Ideal S8x2x8192x128 .bf16) i = RES9 m c i := by
  refine ((dats m 0 c).arrAt_forall_of_covers 9 (fun i v => ((i 3).val < 64) → v = RES9 m c i) (by decide +kernel) (fun t _ y => ?_) i) hi
  intro hl
  have ht : t.val < 128 := t.isLt
  blk_simp
  rw [after0_9]
  unfold outsAt0
  dsimp only
  obtain ⟨a0, a1, a2, a3, rfl⟩ : ∃ (a0 : Fin 1) (a1 : Fin 2) (a2 : Fin 512) (a3 : Fin 128), y = ix4 a0 a1 a2 a3 := ⟨y 0, y 1, y 2, y 3, eq_ix4 y⟩
  obtain rfl : a0 = 0 := Subsingleton.elim _ _
  have h0 : (((cfg0.win 9).blk t).view.emb (ix4 0 a1 a2 a3)) 0 = (⟨t.val / 16, by omega⟩ : Fin 8) := by apply Fin.ext; blk_simp [odx t]; try simp
  have h1 : (((cfg0.win 9).blk t).view.emb (ix4 0 a1 a2 a3)) 1 = (a1 : Fin 2) := by apply Fin.ext; blk_simp [odx t]; try simp
  have h2 : (((cfg0.win 9).blk t).view.emb (ix4 0 a1 a2 a3)) 2 = (⟨t.val % 16 * 512 + a2.val, by omega⟩ : Fin 8192) := by apply Fin.ext; blk_simp [odx t]; try simp
  have h3 : (((cfg0.win 9).blk t).view.emb (ix4 0 a1 a2 a3)) 3 = (a3 : Fin 128) := by apply Fin.ext; blk_simp [odx t]; try simp
  unfold RES9
  rw [h0, h1, h2, h3]
  rw [h3] at hl
  have hex : ∃ l : Fin 64, a3 = ⟨l, Nat.lt_of_lt_of_le l.isLt (by decide)⟩ := ⟨⟨a3, hl⟩, rfl⟩
  clear hl
  obtain ⟨l, rfl⟩ := hex
  refine (Body.out9_at ..).trans ?_
  have hk : tok (⟨t.val / 16, by omega⟩ : Fin 8) (⟨t.val % 16 * 512 + a2.val, by omega⟩ : Fin 8192) = ⟨t.val * 512 + a2.val, by omega⟩ := by
    unfold tok
    apply Fin.ext
    show t.val / 16 * 8192 + (t.val % 16 * 512 + a2.val) = t.val * 512 + a2.val
    omega
  rw [hk]
  refine (dotw_eq m c t a2 _).trans ?_
  unfold gc
  rw [dif_pos (by show 640 + (64 * a1.val + l.val) < 2560; omega)]

/-- Window 10's array, index by index. -/
def RES10 : Vec Ideal S65536x256 .f32 := fun j => gc m c (j 0) (768 + (j 1).val)

/-- Window 10's array after the whole grid. -/
theorem final10 (i : S65536x256.Idx) : ((dats m 0 c).arrAt 10 (cfgs 0).N : Vec Ideal S65536x256 .f32) i = RES10 m c i := by
  refine ((dats m 0 c).arrAt_forall_of_covers 10 (fun i v => v = RES10 m c i) (by decide +kernel) (fun t _ y => ?_) i)
  have ht : t.val < 128 := t.isLt
  blk_simp
  rw [after0_10]
  unfold outsAt0
  dsimp only
  obtain ⟨a0, a1, rfl⟩ : ∃ (a0 : Fin 512) (a1 : Fin 256), y = ix2 a0 a1 := ⟨y 0, y 1, eq_ix2 y⟩
  have h0 : (((cfg0.win 10).blk t).view.emb (ix2 a0 a1)) 0 = (⟨t.val * 512 + a0.val, by omega⟩ : Fin 65536) := by apply Fin.ext; blk_simp [odx t]; try simp
  have h1 : (((cfg0.win 10).blk t).view.emb (ix2 a0 a1)) 1 = (a1 : Fin 256) := by apply Fin.ext; blk_simp [odx t]; try simp
  unfold RES10
  rw [h0, h1]
  refine (Body.out10_at ..).trans ?_
  refine (dotw_eq m c t a0 _).trans ?_
  unfold gc
  rw [dif_pos (by show 768 + a1.val < 2560; omega)]

/-- Window 11's array, index by index. -/
def RES11 : Vec Ideal S65536x512 .f32 := fun j => gc m c (j 0) (1024 + (j 1).val)

/-- Window 11's array after the whole grid. -/
theorem final11 (i : S65536x512.Idx) : ((dats m 0 c).arrAt 11 (cfgs 0).N : Vec Ideal S65536x512 .f32) i = RES11 m c i := by
  refine ((dats m 0 c).arrAt_forall_of_covers 11 (fun i v => v = RES11 m c i) (by decide +kernel) (fun t _ y => ?_) i)
  have ht : t.val < 128 := t.isLt
  blk_simp
  rw [after0_11]
  unfold outsAt0
  dsimp only
  obtain ⟨a0, a1, rfl⟩ : ∃ (a0 : Fin 512) (a1 : Fin 512), y = ix2 a0 a1 := ⟨y 0, y 1, eq_ix2 y⟩
  have h0 : (((cfg0.win 11).blk t).view.emb (ix2 a0 a1)) 0 = (⟨t.val * 512 + a0.val, by omega⟩ : Fin 65536) := by apply Fin.ext; blk_simp [odx t]; try simp
  have h1 : (((cfg0.win 11).blk t).view.emb (ix2 a0 a1)) 1 = (a1 : Fin 512) := by apply Fin.ext; blk_simp [odx t]; try simp
  unfold RES11
  rw [h0, h1]
  refine (Body.out11_at ..).trans ?_
  refine (dotw_eq m c t a0 _).trans ?_
  unfold gc
  rw [dif_pos (by show 1024 + a1.val < 2560; omega)]

/-- Window 12's array, index by index. -/
def RES12 : Vec Ideal S65536x768 .f32 := fun j => gc m c (j 0) (1536 + (j 1).val)

/-- Window 12's array after the whole grid. -/
theorem final12 (i : S65536x768.Idx) : ((dats m 0 c).arrAt 12 (cfgs 0).N : Vec Ideal S65536x768 .f32) i = RES12 m c i := by
  refine ((dats m 0 c).arrAt_forall_of_covers 12 (fun i v => v = RES12 m c i) (by decide +kernel) (fun t _ y => ?_) i)
  have ht : t.val < 128 := t.isLt
  blk_simp
  rw [after0_12]
  unfold outsAt0
  dsimp only
  obtain ⟨a0, a1, rfl⟩ : ∃ (a0 : Fin 512) (a1 : Fin 768), y = ix2 a0 a1 := ⟨y 0, y 1, eq_ix2 y⟩
  have h0 : (((cfg0.win 12).blk t).view.emb (ix2 a0 a1)) 0 = (⟨t.val * 512 + a0.val, by omega⟩ : Fin 65536) := by apply Fin.ext; blk_simp [odx t]; try simp
  have h1 : (((cfg0.win 12).blk t).view.emb (ix2 a0 a1)) 1 = (a1 : Fin 768) := by apply Fin.ext; blk_simp [odx t]; try simp
  unfold RES12
  rw [h0, h1]
  refine (Body.out12_at ..).trans ?_
  refine (dotw_eq m c t a0 _).trans ?_
  unfold gc
  rw [dif_pos (by show 1536 + a1.val < 2560; omega)]

/-- Window 13's array, index by index. -/
def RES13 : Vec Ideal S2x65536x128 .f32 := fun j => gc m c (j 1) (2304 + (128 * (j 0).val + (j 2).val))

/-- Window 13's array after the whole grid. -/
theorem final13 (i : S2x65536x128.Idx) : ((dats m 0 c).arrAt 13 (cfgs 0).N : Vec Ideal S2x65536x128 .f32) i = RES13 m c i := by
  refine ((dats m 0 c).arrAt_forall_of_covers 13 (fun i v => v = RES13 m c i) (by decide +kernel) (fun t _ y => ?_) i)
  have ht : t.val < 128 := t.isLt
  blk_simp
  rw [after0_13]
  unfold outsAt0
  dsimp only
  obtain ⟨a0, a1, a2, rfl⟩ : ∃ (a0 : Fin 2) (a1 : Fin 512) (a2 : Fin 128), y = ix3 a0 a1 a2 := ⟨y 0, y 1, y 2, eq_ix3 y⟩
  have h0 : (((cfg0.win 13).blk t).view.emb (ix3 a0 a1 a2)) 0 = (a0 : Fin 2) := by apply Fin.ext; blk_simp [odx t]; try simp
  have h1 : (((cfg0.win 13).blk t).view.emb (ix3 a0 a1 a2)) 1 = (⟨t.val * 512 + a1.val, by omega⟩ : Fin 65536) := by apply Fin.ext; blk_simp [odx t]; try simp
  have h2 : (((cfg0.win 13).blk t).view.emb (ix3 a0 a1 a2)) 2 = (a2 : Fin 128) := by apply Fin.ext; blk_simp [odx t]; try simp
  unfold RES13
  rw [h0, h1, h2]
  refine (Body.out13_at ..).trans ?_
  refine (dotw_eq m c t a1 _).trans ?_
  unfold gc
  rw [dif_pos (by show 2304 + (128 * a0.val + a2.val) < 2560; omega)]

/-- A query column of the gathered weight gives the weight's, scaled. -/
theorem qcol_eq (r : Fin 65536) (n : Fin 512) : gcol m c r ⟨n, by omega⟩ = qcol m c r n :=
  Finset.sum_congr rfl fun k _ => congrArg (nrm m c r k * ·) (v15_q m c k n)

/-- A row of the transposed key weight that is a column of the weight gives the weight's. -/
theorem kcol_eq (r : Fin 65536) (n : Fin 256) (n' : Fin 2600) (h : ∀ k, (V m c main_v20 : Vec Ideal S256x1024 .bf16) (ix2 n k) = w m c (ix2 k n')) : kcol m c r n = col m c r n' :=
  Finset.sum_congr rfl fun k _ => congrArg (nrm m c r k * ·) (h k)

/-- A column of the gathered weight that is a column of the weight gives the weight's. -/
theorem gcol_eq (r : Fin 65536) (n : Fin 2560) (n' : Fin 2600) (h : ∀ k, (V m c main_v15 : Vec Ideal S1024x2560 .bf16) (ix2 k n) = w m c (ix2 k n')) : gcol m c r n = col m c r n' :=
  Finset.sum_congr rfl fun k _ => congrArg (nrm m c r k * ·) (h k)

/-- What the host keeps of window 5's array. -/
theorem out_q (h : Fin 8) (r : Fin 65536) (l : Fin 64) : extractStridedSlice S8x65536x64 ![0, 0, 0] (Value.reg_main_v23_0 m c) slices_S8x65536x128_S8x65536x64_0_0_0 (ix3 h r l) = qcol m c r ⟨64 * h + l, by omega⟩ := by
  have he : extractStridedSlice S8x65536x64 ![0, 0, 0] (Value.reg_main_v23_0 m c) slices_S8x65536x128_S8x65536x64_0_0_0 (ix3 h r l) = (Value.reg_main_v23_0 m c) (ix3 h r ⟨l, by omega⟩) := by pointwise []
  refine he.trans ((final5 m c (ix3 h r ⟨l, by omega⟩) l.isLt).trans ?_)
  unfold RES5
  refine (dif_pos (show 64 * h.val + l.val < 2560 by omega)).trans ?_
  exact qcol_eq m c r ⟨64 * h + l, by omega⟩

/-- What the host keeps of window 6's array. -/
theorem out_ks (b : Fin 8) (h : Fin 2) (l : Fin 64) (r : Fin 8192) : extractStridedSlice S8x2x64x8192 ![0, 0, 0, 0] (Value.reg_main_v23_1 m c) slices_S8x2x256x8192_S8x2x64x8192_0_0_0_0 (ix4 b h l r) = col m c (tok b r) ⟨768 + (64 * h + l), by omega⟩ := by
  have he : extractStridedSlice S8x2x64x8192 ![0, 0, 0, 0] (Value.reg_main_v23_1 m c) slices_S8x2x256x8192_S8x2x64x8192_0_0_0_0 (ix4 b h l r) = (Value.reg_main_v23_1 m c) (ix4 b h ⟨l, by omega⟩ r) := by pointwise []
  refine he.trans ((final6 m c (ix4 b h ⟨l, by omega⟩ r) l.isLt).trans ?_)
  unfold RES6
  refine (dif_pos (show 0 + (64 * h.val + l.val) < 256 by omega)).trans ?_
  exact kcol_eq m c (tok b r) _ _ fun k => v20_s m c k ⟨64 * h + l, by omega⟩

/-- What the host keeps of window 7's array. -/
theorem out_kw (b : Fin 8) (h : Fin 2) (l : Fin 64) (r : Fin 8192) : extractStridedSlice S8x2x64x8192 ![0, 0, 0, 0] (Value.reg_main_v23_2 m c) slices_S8x2x128x8192_S8x2x64x8192_0_0_0_0 (ix4 b h l r) = col m c (tok b r) ⟨1024 + (64 * h + l), by omega⟩ := by
  have he : extractStridedSlice S8x2x64x8192 ![0, 0, 0, 0] (Value.reg_main_v23_2 m c) slices_S8x2x128x8192_S8x2x64x8192_0_0_0_0 (ix4 b h l r) = (Value.reg_main_v23_2 m c) (ix4 b h ⟨l, by omega⟩ r) := by pointwise []
  refine he.trans ((final7 m c (ix4 b h ⟨l, by omega⟩ r) l.isLt).trans ?_)
  unfold RES7
  refine (dif_pos (show 128 + (64 * h.val + l.val) < 256 by omega)).trans ?_
  exact kcol_eq m c (tok b r) _ _ fun k => v20_w m c k ⟨64 * h + l, by omega⟩

/-- What the host keeps of window 8's array. -/
theorem out_vs (b : Fin 8) (h : Fin 2) (r : Fin 8192) (l : Fin 64) : extractStridedSlice S8x2x8192x64 ![0, 0, 0, 0] (Value.reg_main_v23_3 m c) slices_S8x2x8192x128_S8x2x8192x64_0_0_0_0 (ix4 b h r l) = col m c (tok b r) ⟨896 + (64 * h + l), by omega⟩ := by
  have he : extractStridedSlice S8x2x8192x64 ![0, 0, 0, 0] (Value.reg_main_v23_3 m c) slices_S8x2x8192x128_S8x2x8192x64_0_0_0_0 (ix4 b h r l) = (Value.reg_main_v23_3 m c) (ix4 b h r ⟨l, by omega⟩) := by pointwise []
  refine he.trans ((final8 m c (ix4 b h r ⟨l, by omega⟩) l.isLt).trans ?_)
  unfold RES8
  refine (dif_pos (show 512 + (64 * h.val + l.val) < 2560 by omega)).trans ?_
  exact gcol_eq m c (tok b r) _ _ fun k => v15_vs m c k ⟨64 * h + l, by omega⟩

/-- What the host keeps of window 9's array. -/
theorem out_vw (b : Fin 8) (h : Fin 2) (r : Fin 8192) (l : Fin 64) : extractStridedSlice S8x2x8192x64 ![0, 0, 0, 0] (Value.reg_main_v23_4 m c) slices_S8x2x8192x128_S8x2x8192x64_0_0_0_0 (ix4 b h r l) = col m c (tok b r) ⟨1152 + (64 * h + l), by omega⟩ := by
  have he : extractStridedSlice S8x2x8192x64 ![0, 0, 0, 0] (Value.reg_main_v23_4 m c) slices_S8x2x8192x128_S8x2x8192x64_0_0_0_0 (ix4 b h r l) = (Value.reg_main_v23_4 m c) (ix4 b h r ⟨l, by omega⟩) := by pointwise []
  refine he.trans ((final9 m c (ix4 b h r ⟨l, by omega⟩) l.isLt).trans ?_)
  unfold RES9
  refine (dif_pos (show 640 + (64 * h.val + l.val) < 2560 by omega)).trans ?_
  exact gcol_eq m c (tok b r) _ _ fun k => v15_vw m c k ⟨64 * h + l, by omega⟩

/-- What the host keeps of window 13's array. -/
theorem out_n0 (r : Fin 65536) (l : Fin 12) : extractStridedSlice S2x65536x12 ![0, 0, 0] (Value.reg_main_v23_8 m c) slices_S2x65536x128_S2x65536x12_0_0_0 (ix3 0 r l) = col m c r ⟨1280 + l, by omega⟩ := by
  have he : extractStridedSlice S2x65536x12 ![0, 0, 0] (Value.reg_main_v23_8 m c) slices_S2x65536x128_S2x65536x12_0_0_0 (ix3 0 r l) = (Value.reg_main_v23_8 m c) (ix3 0 r ⟨l, by omega⟩) := by pointwise []
  refine he.trans ((final13 m c (ix3 0 r ⟨l, by omega⟩) ).trans ?_)
  unfold RES13
  refine (dif_pos (show 2304 + (128 * 0 + l.val) < 2560 by omega)).trans ?_
  exact gcol_eq m c r _ _ fun k => (congrArg (fun n => (V m c main_v15 : Vec Ideal S1024x2560 .bf16) (ix2 k n)) (Fin.ext (by show 2304 + (128 * 0 + l.val) = 2304 + l.val; omega))).trans (v15_n0 m c k l)

/-- What the host keeps of window 13's array. -/
theorem out_n1 (r : Fin 65536) (l : Fin 12) : extractStridedSlice S2x65536x12 ![0, 0, 0] (Value.reg_main_v23_8 m c) slices_S2x65536x128_S2x65536x12_0_0_0 (ix3 1 r l) = col m c r ⟨1292 + l, by omega⟩ := by
  have he : extractStridedSlice S2x65536x12 ![0, 0, 0] (Value.reg_main_v23_8 m c) slices_S2x65536x128_S2x65536x12_0_0_0 (ix3 1 r l) = (Value.reg_main_v23_8 m c) (ix3 1 r ⟨l, by omega⟩) := by pointwise []
  refine he.trans ((final13 m c (ix3 1 r ⟨l, by omega⟩) ).trans ?_)
  unfold RES13
  refine (dif_pos (show 2304 + (128 * 1 + l.val) < 2560 by omega)).trans ?_
  exact gcol_eq m c r _ _ fun k => (congrArg (fun n => (V m c main_v15 : Vec Ideal S1024x2560 .bf16) (ix2 k n)) (Fin.ext (by show 2304 + (128 * 1 + l.val) = 2432 + l.val; omega))).trans (v15_n1 m c k l)

/-- What the host keeps of window 13's array. -/
theorem out_ga (r : Fin 65536) (l : Fin 16) : extractStridedSlice S1x65536x16 ![0, 0, 16] (Value.reg_main_v23_8 m c) slices_S2x65536x128_S1x65536x16_0_0_16 (ix3 0 r l) = col m c r ⟨2328 + l, by omega⟩ := by
  have he : extractStridedSlice S1x65536x16 ![0, 0, 16] (Value.reg_main_v23_8 m c) slices_S2x65536x128_S1x65536x16_0_0_16 (ix3 0 r l) = (Value.reg_main_v23_8 m c) (ix3 0 r ⟨16 + l, by omega⟩) := by pointwise []
  refine he.trans ((final13 m c (ix3 0 r ⟨16 + l, by omega⟩) ).trans ?_)
  unfold RES13
  refine (dif_pos (show 2304 + (128 * 0 + (16 + l.val)) < 2560 by omega)).trans ?_
  exact gcol_eq m c r _ _ fun k => (congrArg (fun n => (V m c main_v15 : Vec Ideal S1024x2560 .bf16) (ix2 k n)) (Fin.ext (by show 2304 + (128 * 0 + (16 + l.val)) = 2320 + l.val; omega))).trans (v15_ga m c k l)

/-- Window 10's array, returned whole. -/
theorem out_kvc (r : Fin 65536) (l : Fin 256) : (Value.reg_main_v23_5 m c : Vec Ideal S65536x256 .f32) (ix2 r l) = col m c r ⟨512 + l, by omega⟩ := by
  refine (final10 m c (ix2 r l)).trans ?_
  unfold RES10
  refine (dif_pos (show 768 + l.val < 2560 by omega)).trans ?_
  exact gcol_eq m c r _ _ fun k => v15_kvc m c k l

/-- Window 11's array, returned whole. -/
theorem out_cu (r : Fin 65536) (l : Fin 512) : (Value.reg_main_v23_6 m c : Vec Ideal S65536x512 .f32) (ix2 r l) = col m c r ⟨1304 + l, by omega⟩ := by
  refine (final11 m c (ix2 r l)).trans ?_
  unfold RES11
  refine (dif_pos (show 1024 + l.val < 2560 by omega)).trans ?_
  exact gcol_eq m c r _ _ fun k => v15_cg m c k ⟨l, by omega⟩

/-- Window 12's array, returned whole. -/
theorem out_gla0 (r : Fin 65536) (l : Fin 512) : (Value.reg_main_v23_7 m c : Vec Ideal S65536x768 .f32) (ix2 r ⟨l, by omega⟩) = col m c r ⟨1816 + l, by omega⟩ := by
  refine (final12 m c (ix2 r ⟨l, by omega⟩)).trans ?_
  unfold RES12
  refine (dif_pos (show 1536 + l.val < 2560 by omega)).trans ?_
  refine (gcol_eq m c r _ ⟨1304 + (512 + l), by omega⟩ fun k => (congrArg (fun n => (V m c main_v15 : Vec Ideal S1024x2560 .bf16) (ix2 k n)) (Fin.ext (by show 1536 + l.val = 1024 + (512 + l.val); omega))).trans (v15_cg m c k ⟨512 + l, by omega⟩)).trans ?_
  exact congrArg (col m c r) (Fin.ext (by show 1304 + (512 + l.val) = 1816 + l.val; omega))

/-- Window 12's array, returned whole. -/
theorem out_gla1 (r : Fin 65536) (l : Fin 256) : (Value.reg_main_v23_7 m c : Vec Ideal S65536x768 .f32) (ix2 r ⟨512 + l, by omega⟩) = col m c r ⟨2344 + l, by omega⟩ := by
  refine (final12 m c (ix2 r ⟨512 + l, by omega⟩)).trans ?_
  unfold RES12
  refine (dif_pos (show 1536 + (512 + l.val) < 2560 by omega)).trans ?_
  exact gcol_eq m c r _ _ fun k => (congrArg (fun n => (V m c main_v15 : Vec Ideal S1024x2560 .bf16) (ix2 k n)) (Fin.ext (by show 1536 + (512 + l.val) = 2048 + l.val; omega))).trans (v15_gr m c k l)

end Cert.ProjIdeal.Final
end
-- ==== Proof.ProjRef.lean ====
/- The reference of the input projection, read at one token and one column. -/
module

public import proofs.«01_k».proof.Proof.ProjRows
public import proofs.«01_k».proof.Proof.Gen.RefProjIdeal.Run

@[expose] public section

set_option maxRecDepth 16384

noncomputable section

namespace Cert.RefProjIdeal.Rows
open Cert.RefProjIdeal Cert.RefProjIdeal.Gen Idealize.ShloMosaic Idealize.ShloMosaic.TcCoe Cert.ProjRows

variable (x : Vec Ideal S8x8192x1024 .f32) (g : Vec Ideal S1024 .f32) (w : Vec Ideal S1024x2600 .f32)

/-- The projection of every token, as the reference writes it. -/
def Z : Vec Ideal S8x8192x2600 .f32 :=
  Host.dotGeneral (F := Ideal) (φ₂ := .f32) dot_S8x8192x1024_S1024x2600_S8x8192x2600_2_0_01_1_n_n none
    (mulf (F := Ideal) (mulf (F := Ideal) x (broadcastInDim S8x8192x1024 ![0, 1, 2] bcast_S8x8192x1_S8x8192x1024_0_1_2
      (Host.rsqrt (F := Ideal) (addf (F := Ideal) (Host.divf (F := Ideal) (broadcastInDim S8x8192x1 ![0, 1] bcast_S8x8192_S8x8192x1_0_1
        (Host.reduceAdd (F := Ideal) (mulf (F := Ideal) x x) (constant S_ .f32 0x00000000#32) reducesTo_S8x8192x1024_S8x8192_d2 h_S_))
        (broadcastInDim S8x8192x1 ![] bcast_S_S8x8192x1 (constant S_ .f32 0x44800000#32)))
        (broadcastInDim S8x8192x1 ![] bcast_S_S8x8192x1 (constant S_ .f32 0x358637BD#32))))))
      (broadcastInDim S8x8192x1024 ![0, 1, 2] bcast_S1x1x1024_S8x8192x1024_0_1_2 (broadcastInDim S1x1x1024 ![2] bcast_S1024_S1x1x1024_2 g))) w

/-- The projection at token `(b, s)` and column `n`. -/
theorem Z_at (b : Fin 8) (s : Fin 8192) (n : Fin 2600) : Z x g w (ix3 b s n)
    = ∑ k, rms (fun q => x (ix3 b s q)) (fun q => g (ix1 q)) k * w (ix2 k n) := by
  pointwise [Z, rms]

/-- The scale of the queries is a real number that is not negative. -/
theorem scale_real : ∃ r : ℝ, 0 ≤ r ∧ Ideal.ofBits .f32 0x3E000000#32 = (r : EReal) := by
  refine ⟨1 / 8, by norm_num, ?_⟩
  simp [Ideal.ofBits, Ideal.ieee, -EReal.coe_mul]
  norm_num

/-- Scaling a sum by it scales the terms. -/
theorem scale_sum {n : ℕ} (a b : Fin n → EReal) :
    (∑ k, a k * b k) * Ideal.ofBits .f32 0x3E000000#32 = ∑ k, a k * (b k * Ideal.ofBits .f32 0x3E000000#32) := by
  obtain ⟨r, h0, hr⟩ := scale_real
  rw [hr]
  have key : ∀ s : Finset (Fin n), (∑ k ∈ s, a k * b k) * (r : EReal) = ∑ k ∈ s, a k * (b k * (r : EReal)) := by
    intro s
    induction s using Finset.induction_on with
    | empty => simp
    | insert i s hi ih =>
      rw [Finset.sum_insert hi, Finset.sum_insert hi, EReal.right_distrib_of_nonneg_of_ne_top (by exact_mod_cast h0) (EReal.coe_ne_top r), ih, mul_assoc]
  exact key _

end Cert.RefProjIdeal.Rows
end
-- ==== Proof.ProjClaim.lean ====
/- The kernel of the input projection computes what its reference computes. -/
module

public import proofs.«01_k».proof.Defs
public import proofs.«01_k».proof.Proof.ProjValue
public import proofs.«01_k».proof.Proof.ProjRef
public import Idealize.ShloMosaic.Lib.Tactic.CleanTypes
public import Idealize.ShloMosaic.Lib.Claim
public import Idealize.ShloMosaic.Lib.Quiescent

@[expose] public section

set_option maxRecDepth 16384
set_option maxHeartbeats 2000000

noncomputable section

namespace Cert.ProjClaim

open Idealize.ShloMosaic Idealize.ShloMosaic.TcCoe Idealize.SL.Sem Cert.ProjIdeal.Final
open Cert.RefProjIdeal.Rows (Z)

variable (m : (ℓ : Loc ProjIdeal.nD ProjIdeal.τ ProjIdeal.sig) → Buf (Elt Ideal) ℓ) (c : Dev ProjIdeal.nD)

/-- The reference's projection at token `s` of sequence `b`: that token, normed, against the weight's column. -/
theorem z_at (b : Fin 8) (s : Fin 8192) (n : Fin 2600) :
    Z (ProjIdeal.Final.x m c) (ProjIdeal.Final.g m c) (ProjIdeal.Final.w m c) (ix3 b s n) = col m c (tok b s) n := by
  refine (RefProjIdeal.Rows.Z_at _ _ _ b s n).trans ?_
  have h1 : (⟨(tok b s).val / 8192, by have := (tok b s).isLt; omega⟩ : Fin 8) = b := by
    apply Fin.ext
    show (b.val * 8192 + s.val) / 8192 = b.val
    omega
  have h2 : (⟨(tok b s).val % 8192, by omega⟩ : Fin 8192) = s := by
    apply Fin.ext
    show (b.val * 8192 + s.val) % 8192 = s.val
    omega
  unfold col nrm
  rw [h1, h2]

/-- The same, the token counted through all sequences. -/
theorem z_tok (r : Fin 65536) (n : Fin 2600) :
    Z (ProjIdeal.Final.x m c) (ProjIdeal.Final.g m c) (ProjIdeal.Final.w m c) (ix3 ⟨r / 8192, by omega⟩ ⟨r % 8192, by omega⟩ n) = col m c r n := by
  refine (z_at m c _ _ n).trans ?_
  have h : tok ⟨r.val / 8192, by omega⟩ ⟨r.val % 8192, by omega⟩ = r := by
    apply Fin.ext
    show r.val / 8192 * 8192 + r.val % 8192 = r.val
    omega
  rw [h]

/-- The ten results are the same arrays, from launch memories that agree on the arguments. -/
theorem algebraic : Cert.algebraic_ProjIdeal_RefProjIdeal := by
  pair_intro
  · run_from Cert.ProjIdeal.Value.run m g
  · run_from Cert.RefProjIdeal.Value.run m' g'
    all_goals
      try unfold RefProjIdeal.Value.res_main_v50
      try obtain ⟨h0, h1, h2, h3⟩ := hagree c
      try rw [h0, h1, h2]
      generalize hZ : Host.dotGeneral (F := Ideal) (φ₁ := .f32) (φ₂ := .f32) RefProjIdeal.dot_S8x8192x1024_S1024x2600_S8x8192x2600_2_0_01_1_n_n none _ _ = Z0
      have hz : ∀ (r : Fin 65536) (n : Fin 2600), (Z0 : Vec Ideal RefProjIdeal.S8x8192x2600 .f32) (ix3 ⟨r / 8192, by omega⟩ ⟨r % 8192, by omega⟩ n) = col m c r n :=
        fun r n => (congrFun hZ.symm _).trans (z_tok m c r n)
      have hy : ∀ (b : Fin 8) (s : Fin 8192) (n : Fin 2600), (Z0 : Vec Ideal RefProjIdeal.S8x8192x2600 .f32) (ix3 b s n) = col m c (tok b s) n :=
        fun b s n => (congrFun hZ.symm _).trans (z_at m c b s n)
      clear hZ
      funext j
    · obtain ⟨h, r, l, rfl⟩ : ∃ (h : Fin 8) (r : Fin 65536) (l : Fin 64), j = ix3 h r l := ⟨j 0, j 1, j 2, eq_ix3 j⟩
      refine Eq.trans ?_ (out_q m c h r l).symm
      refine Eq.trans ?_ (RefProjIdeal.Rows.scale_sum (nrm m c r) (fun k => w m c (ix2 k ⟨64 * h + l, by omega⟩)))
      refine Eq.trans ?_ (congrArg (· * Ideal.ofBits .f32 0x3E000000#32) (hz r ⟨64 * h + l, by omega⟩))
      clean_types
      pointwise []
      exact congrArg (fun n => Z0 (ix3 _ _ n) * Ideal.ofBits .f32 0x3E000000#32) (Fin.ext (by dsimp only; omega))
    · obtain ⟨b, h, l, r, rfl⟩ : ∃ (b : Fin 8) (h : Fin 2) (l : Fin 64) (r : Fin 8192), j = ix4 b h l r := ⟨j 0, j 1, j 2, j 3, eq_ix4 j⟩
      refine Eq.trans ?_ (out_ks m c b h l r).symm
      refine Eq.trans ?_ (hy b r ⟨768 + (64 * h + l), by omega⟩)
      clean_types
      pointwise []
      exact congrArg (fun n => Z0 (ix3 _ _ n)) (Fin.ext (by dsimp only; omega))
    · obtain ⟨b, h, l, r, rfl⟩ : ∃ (b : Fin 8) (h : Fin 2) (l : Fin 64) (r : Fin 8192), j = ix4 b h l r := ⟨j 0, j 1, j 2, j 3, eq_ix4 j⟩
      refine Eq.trans ?_ (out_kw m c b h l r).symm
      refine Eq.trans ?_ (hy b r ⟨1024 + (64 * h + l), by omega⟩)
      clean_types
      pointwise []
      exact congrArg (fun n => Z0 (ix3 _ _ n)) (Fin.ext (by dsimp only; omega))
    · obtain ⟨b, h, r, l, rfl⟩ : ∃ (b : Fin 8) (h : Fin 2) (r : Fin 8192) (l : Fin 64), j = ix4 b h r l := ⟨j 0, j 1, j 2, j 3, eq_ix4 j⟩
      refine Eq.trans ?_ (out_vs m c b h r l).symm
      refine Eq.trans ?_ (hy b r ⟨896 + (64 * h + l), by omega⟩)
      clean_types
      pointwise []
      exact congrArg (fun n => Z0 (ix3 _ _ n)) (Fin.ext (by dsimp only; omega))
    · obtain ⟨b, h, r, l, rfl⟩ : ∃ (b : Fin 8) (h : Fin 2) (r : Fin 8192) (l : Fin 64), j = ix4 b h r l := ⟨j 0, j 1, j 2, j 3, eq_ix4 j⟩
      refine Eq.trans ?_ (out_vw m c b h r l).symm
      refine Eq.trans ?_ (hy b r ⟨1152 + (64 * h + l), by omega⟩)
      clean_types
      pointwise []
      exact congrArg (fun n => Z0 (ix3 _ _ n)) (Fin.ext (by dsimp only; omega))
    · obtain ⟨r, l, rfl⟩ : ∃ (r : Fin 65536) (l : Fin 256), j = ix2 r l := ⟨j 0, j 1, eq_ix2 j⟩
      refine Eq.trans ?_ (out_kvc m c r l).symm
      refine Eq.trans ?_ (hz r ⟨512 + l, by omega⟩)
      clean_types
      pointwise []
      all_goals
        split_ifs
        all_goals first
          | rfl
          | exact congrArg (fun n => Z0 (ix3 _ _ n)) (Fin.ext (by dsimp only; omega))
    · obtain ⟨r, l, rfl⟩ : ∃ (r : Fin 65536) (l : Fin 512), j = ix2 r l := ⟨j 0, j 1, eq_ix2 j⟩
      refine Eq.trans ?_ (out_cu m c r l).symm
      refine Eq.trans ?_ (hz r ⟨1304 + l, by omega⟩)
      clean_types
      pointwise []
    · obtain ⟨r, l, rfl⟩ : ∃ (r : Fin 65536) (l : Fin 768), j = ix2 r l := ⟨j 0, j 1, eq_ix2 j⟩
      by_cases hl : l.val < 512
      · obtain ⟨l', rfl⟩ : ∃ l' : Fin 512, l = ⟨l', Nat.lt_of_lt_of_le l'.isLt (by decide)⟩ := ⟨⟨l, hl⟩, rfl⟩
        refine Eq.trans ?_ (out_gla0 m c r l').symm
        refine Eq.trans ?_ (hz r ⟨1816 + l', by omega⟩)
        clean_types
        pointwise []
        split_ifs
        all_goals first
          | rfl
          | exact congrArg (fun n => Z0 (ix3 _ _ n)) (Fin.ext (by dsimp only; omega))
          | (exfalso; have := l'.isLt; omega)
      · obtain ⟨l', rfl⟩ : ∃ l' : Fin 256, l = ⟨512 + l', Nat.add_lt_add_left l'.isLt 512⟩ :=
          ⟨⟨l.val - 512, by omega⟩, Fin.ext (by show l.val = 512 + (l.val - 512); omega)⟩
        refine Eq.trans ?_ (out_gla1 m c r l').symm
        refine Eq.trans ?_ (hz r ⟨2344 + l', by omega⟩)
        clean_types
        pointwise []
        all_goals
          repeat rw [dif_neg (by omega)]
          exact congrArg (fun n => Z0 (ix3 _ _ n)) (Fin.ext (by show 2344 + (512 + l'.val - 128 - 128 - 256) = 2344 + l'.val; omega))
    · obtain ⟨h, r, l, rfl⟩ : ∃ (h : Fin 2) (r : Fin 65536) (l : Fin 12), j = ix3 h r l := ⟨j 0, j 1, j 2, eq_ix3 j⟩
      fin_cases h
      · refine Eq.trans ?_ (out_n0 m c r l).symm
        refine Eq.trans ?_ (hz r ⟨1280 + l, by omega⟩)
        clean_types
        pointwise []
      · refine Eq.trans ?_ (out_n1 m c r l).symm
        refine Eq.trans ?_ (hz r ⟨1292 + l, by omega⟩)
        clean_types
        pointwise []
        all_goals exact congrArg (fun n => Z0 (ix3 _ _ n)) (Fin.ext (by show 1280 + (12 * 1 + l.val) = 1292 + l.val; omega))
    · obtain ⟨r, l, rfl⟩ : ∃ (r : Fin 65536) (l : Fin 16), j = ix2 r l := ⟨j 0, j 1, eq_ix2 j⟩
      refine Eq.trans ?_ ((out_ga m c r l).symm.trans ?_)
      · refine Eq.trans ?_ (hz r ⟨2328 + l, by omega⟩)
        clean_types
        pointwise []
      · generalize extractStridedSlice ProjIdeal.S1x65536x16 ![0, 0, 16] (ProjIdeal.Value.reg_main_v23_8 m c) ProjIdeal.Gen.slices_S2x65536x128_S1x65536x16_0_0_16 = E
        clean_types
        pointwise []

/-- The reference's run leaves its arguments as they were. -/
theorem reference_frame : Cert.quiescent_RefProjIdeal := by
  intro m g _
  exact (θ_run _ _ _).mono (fun r h => ⟨fun c => (h c).2.2.2.2.2.2.2.2.2.2, sem_eq_zero_of_no_sems (sig := Cert.RefProjIdeal.sig) (by decide) _⟩)
    (Cert.RefProjIdeal.Value.run m g)

end Cert.ProjClaim
end
-- ==== Proof.CmpRows.lean ====
/- The row mathematics of the block compression's call, and the kernel's body as it. -/
module

public import proofs.«01_k».proof.Proof.Gen.CmpIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.CmpRows

open Idealize.ShloMosaic

/-- The logistic gate as the layer writes it. -/
def silu (z : EReal) : EReal := z * Ideal.div 1 (1 + Ideal.exp (-z))

/-- One token's row with its position's row added, against a position's weights. -/
def dotp (x p : Fin 128 → EReal) (w : Fin 128 → EReal) : EReal := ∑ k, (x k + p k) * w k

end Cert.CmpRows

namespace Cert.CmpIdeal.Body
open Cert.CmpIdeal Cert.CmpIdeal.Gen Idealize.ShloMosaic Idealize.ShloMosaic.TcCoe Idealize.SL.Sem Cert.CmpRows

/-- A strided load of the block: row `r` of the load is row `16 * r + a` of the block. -/
theorem str_at (arg2 : Memref sig .tc .vmem S1x8192x128 .f32) (harg2 : arg2.IsWhole) (x0 : Vec Ideal S1x8192x128 .f32) (a : ℕ) (ha : a < 16)
    (inb : ∀ d, _) (r : Fin 512) (k : Fin 128) :
    View.readAt (Elt Ideal) arg2.view (⟨![0, a, 0], S1x512x128.size, ![1, 16, 1], inb⟩ : LoadRect S1x8192x128) (harg2.unread x0) (ix3 0 r k)
      = x0 (ix3 0 ⟨16 * r + a, by omega⟩ k) := by
  refine (congrFun (harg2.read_unread x0) _).trans (congrArg x0 ?_)
  funext z
  match z with
  | ⟨0, _⟩ => rfl
  | ⟨1, _⟩ => apply Fin.ext; show a + 16 * r.val = 16 * r.val + a; omega
  | ⟨2, _⟩ => apply Fin.ext; show 0 + 1 * k.val = k.val; omega

/-- The two products of one token position, summed over the block's 16 positions: from position `o` of the block on. -/
def half (x0 : Vec Ideal S1x8192x128 .f32) (x1 : Vec Ideal S1x32x128 .f32) (x2 : Vec Ideal S1x32x128x512 .bf16) (o : ℕ) (ho : o ≤ 16) (n : Fin 512) (j : Fin 512) : EReal :=
  ∑ a : Fin 16, ∑ k : Fin 128, (x0 (ix3 0 ⟨16 * n + a, by omega⟩ k) + x1 (ix3 0 ⟨o + a, by omega⟩ k)) * x2 (ix4 0 ⟨o + a, by omega⟩ k j)

/-- A sum over 16, written out. -/
theorem sum16 (f : Fin 16 → EReal) : ∑ a, f a = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- `half` from position 0 on, written out. -/
theorem half_0 (x0 : Vec Ideal S1x8192x128 .f32) (x1 : Vec Ideal S1x32x128 .f32) (x2 : Vec Ideal S1x32x128x512 .bf16) (n : Fin 512) (j : Fin 512) :
    half x0 x1 x2 0 (by decide) n j = (∑ k : Fin 128, (x0 (ix3 0 ⟨16 * n.val + 0, by omega⟩ k) + x1 (ix3 0 0 k)) * x2 (ix4 0 0 k j)) + (∑ k : Fin 128, (x0 (ix3 0 ⟨16 * n.val + 1, by omega⟩ k) + x1 (ix3 0 1 k)) * x2 (ix4 0 1 k j)) + (∑ k : Fin 128, (x0 (ix3 0 ⟨16 * n.val + 2, by omega⟩ k) + x1 (ix3 0 2 k)) * x2 (ix4 0 2 k j)) + (∑ k : Fin 128, (x0 (ix3 0 ⟨16 * n.val + 3, by omega⟩ k) + x1 (ix3 0 3 k)) * x2 (ix4 0 3 k j)) + (∑ k : Fin 128, (x0 (ix3 0 ⟨16 * n.val + 4, by omega⟩ k) + x1 (ix3 0 4 k)) * x2 (ix4 0 4 k j)) + (∑ k : Fin 128, (x0 (ix3 0 ⟨16 * n.val + 5, by omega⟩ k) + x1 (ix3 0 5 k)) * x2 (ix4 0 5 k j)) + (∑ k : Fin 128, (x0 (ix3 0 ⟨16 * n.val + 6, by omega⟩ k) + x1 (ix3 0 6 k)) * x2 (ix4 0 6 k j)) + (∑ k : Fin 128, (x0 (ix3 0 ⟨16 * n.val + 7, by omega⟩ k) + x1 (ix3 0 7 k)) * x2 (ix4 0 7 k j)) + (∑ k : Fin 128, (x0 (ix3 0 ⟨16 * n.val + 8, by omega⟩ k) + x1 (ix3 0 8 k)) * x2 (ix4 0 8 k j)) + (∑ k : Fin 128, (x0 (ix3 0 ⟨16 * n.val + 9, by omega⟩ k) + x1 (ix3 0 9 k)) * x2 (ix4 0 9 k j)) + (∑ k : Fin 128, (x0 (ix3 0 ⟨16 * n.val + 10, by omega⟩ k) + x1 (ix3 0 10 k)) * x2 (ix4 0 10 k j)) + (∑ k : Fin 128, (x0 (ix3 0 ⟨16 * n.val + 11, by omega⟩ k) + x1 (ix3 0 11 k)) * x2 (ix4 0 11 k j)) + (∑ k : Fin 128, (x0 (ix3 0 ⟨16 * n.val + 12, by omega⟩ k) + x1 (ix3 0 12 k)) * x2 (ix4 0 12 k j)) + (∑ k : Fin 128, (x0 (ix3 0 ⟨16 * n.val + 13, by omega⟩ k) + x1 (ix3 0 13 k)) * x2 (ix4 0 13 k j)) + (∑ k : Fin 128, (x0 (ix3 0 ⟨16 * n.val + 14, by omega⟩ k) + x1 (ix3 0 14 k)) * x2 (ix4 0 14 k j)) + (∑ k : Fin 128, (x0 (ix3 0 ⟨16 * n.val + 15, by omega⟩ k) + x1 (ix3 0 15 k)) * x2 (ix4 0 15 k j)) := by
  exact sum16 _

/-- `half` from position 16 on, written out. -/
theorem half_16 (x0 : Vec Ideal S1x8192x128 .f32) (x1 : Vec Ideal S1x32x128 .f32) (x2 : Vec Ideal S1x32x128x512 .bf16) (n : Fin 512) (j : Fin 512) :
    half x0 x1 x2 16 (by decide) n j = (∑ k : Fin 128, (x0 (ix3 0 ⟨16 * n.val + 0, by omega⟩ k) + x1 (ix3 0 16 k)) * x2 (ix4 0 16 k j)) + (∑ k : Fin 128, (x0 (ix3 0 ⟨16 * n.val + 1, by omega⟩ k) + x1 (ix3 0 17 k)) * x2 (ix4 0 17 k j)) + (∑ k : Fin 128, (x0 (ix3 0 ⟨16 * n.val + 2, by omega⟩ k) + x1 (ix3 0 18 k)) * x2 (ix4 0 18 k j)) + (∑ k : Fin 128, (x0 (ix3 0 ⟨16 * n.val + 3, by omega⟩ k) + x1 (ix3 0 19 k)) * x2 (ix4 0 19 k j)) + (∑ k : Fin 128, (x0 (ix3 0 ⟨16 * n.val + 4, by omega⟩ k) + x1 (ix3 0 20 k)) * x2 (ix4 0 20 k j)) + (∑ k : Fin 128, (x0 (ix3 0 ⟨16 * n.val + 5, by omega⟩ k) + x1 (ix3 0 21 k)) * x2 (ix4 0 21 k j)) + (∑ k : Fin 128, (x0 (ix3 0 ⟨16 * n.val + 6, by omega⟩ k) + x1 (ix3 0 22 k)) * x2 (ix4 0 22 k j)) + (∑ k : Fin 128, (x0 (ix3 0 ⟨16 * n.val + 7, by omega⟩ k) + x1 (ix3 0 23 k)) * x2 (ix4 0 23 k j)) + (∑ k : Fin 128, (x0 (ix3 0 ⟨16 * n.val + 8, by omega⟩ k) + x1 (ix3 0 24 k)) * x2 (ix4 0 24 k j)) + (∑ k : Fin 128, (x0 (ix3 0 ⟨16 * n.val + 9, by omega⟩ k) + x1 (ix3 0 25 k)) * x2 (ix4 0 25 k j)) + (∑ k : Fin 128, (x0 (ix3 0 ⟨16 * n.val + 10, by omega⟩ k) + x1 (ix3 0 26 k)) * x2 (ix4 0 26 k j)) + (∑ k : Fin 128, (x0 (ix3 0 ⟨16 * n.val + 11, by omega⟩ k) + x1 (ix3 0 27 k)) * x2 (ix4 0 27 k j)) + (∑ k : Fin 128, (x0 (ix3 0 ⟨16 * n.val + 12, by omega⟩ k) + x1 (ix3 0 28 k)) * x2 (ix4 0 28 k j)) + (∑ k : Fin 128, (x0 (ix3 0 ⟨16 * n.val + 13, by omega⟩ k) + x1 (ix3 0 29 k)) * x2 (ix4 0 29 k j)) + (∑ k : Fin 128, (x0 (ix3 0 ⟨16 * n.val + 14, by omega⟩ k) + x1 (ix3 0 30 k)) * x2 (ix4 0 30 k j)) + (∑ k : Fin 128, (x0 (ix3 0 ⟨16 * n.val + 15, by omega⟩ k) + x1 (ix3 0 31 k)) * x2 (ix4 0 31 k j)) := by
  exact sum16 _

/-- One grid point's result, at row `n` of its block. -/
theorem out_at (c : Dev nD) (i : grid0.Coords) (arg2 : Memref sig .tc .vmem S1x8192x128 .f32) (harg2 : arg2.IsWhole) (arg3 : Memref sig .tc .vmem S1x32x128 .f32) (harg3 : arg3.IsWhole) (arg4 : Memref sig .tc .vmem S1x32x128x512 .bf16) (harg4 : arg4.IsWhole) (arg5 : Memref sig .tc .vmem S1x1x512 .f32) (harg5 : arg5.IsWhole) (arg6 : Memref sig .tc .vmem S1x512x128 .bf16) (harg6 : arg6.IsWhole) (arg7 : Memref sig .tc .vmem S1x1x512x128 .bf16) (harg7 : arg7.IsWhole)
    (x0 : Vec Ideal S1x8192x128 .f32) (x1 : Vec Ideal S1x32x128 .f32) (x2 : Vec Ideal S1x32x128x512 .bf16) (x3 : Vec Ideal S1x1x512 .f32) (x4 : Vec Ideal S1x512x128 .bf16)
    (n : Fin 512) (l : Fin 128) :
    out0_A_5 c i arg2 harg2 arg3 harg3 arg4 harg4 arg5 harg5 arg6 harg6 arg7 harg7 x0 x1 x2 x3 x4 (ix4 0 0 n l)
      = ∑ j : Fin 512, silu (half x0 x1 x2 0 (by decide) n j + half x0 x1 x2 16 (by decide) ⟨(n + 1) % 512, by omega⟩ j + x3 (ix3 0 0 j)) * x4 (ix3 0 j l) := by
  frame_out
  have e0 := str_at arg2 harg2 x0 0 (by decide) inb_S1x8192x128_S1x512x128_0_0_0_s_1_16_1
  generalize View.readAt (Elt Ideal) arg2.view (⟨![0, 0, 0], S1x512x128.size, ![1, 16, 1], inb_S1x8192x128_S1x512x128_0_0_0_s_1_16_1⟩ : LoadRect S1x8192x128) (harg2.unread x0) = X0 at e0 ⊢
  have e1 := str_at arg2 harg2 x0 1 (by decide) inb_S1x8192x128_S1x512x128_0_1_0_s_1_16_1
  generalize View.readAt (Elt Ideal) arg2.view (⟨![0, 1, 0], S1x512x128.size, ![1, 16, 1], inb_S1x8192x128_S1x512x128_0_1_0_s_1_16_1⟩ : LoadRect S1x8192x128) (harg2.unread x0) = X1 at e1 ⊢
  have e2 := str_at arg2 harg2 x0 2 (by decide) inb_S1x8192x128_S1x512x128_0_2_0_s_1_16_1
  generalize View.readAt (Elt Ideal) arg2.view (⟨![0, 2, 0], S1x512x128.size, ![1, 16, 1], inb_S1x8192x128_S1x512x128_0_2_0_s_1_16_1⟩ : LoadRect S1x8192x128) (harg2.unread x0) = X2 at e2 ⊢
  have e3 := str_at arg2 harg2 x0 3 (by decide) inb_S1x8192x128_S1x512x128_0_3_0_s_1_16_1
  generalize View.readAt (Elt Ideal) arg2.view (⟨![0, 3, 0], S1x512x128.size, ![1, 16, 1], inb_S1x8192x128_S1x512x128_0_3_0_s_1_16_1⟩ : LoadRect S1x8192x128) (harg2.unread x0) = X3 at e3 ⊢
  have e4 := str_at arg2 harg2 x0 4 (by decide) inb_S1x8192x128_S1x512x128_0_4_0_s_1_16_1
  generalize View.readAt (Elt Ideal) arg2.view (⟨![0, 4, 0], S1x512x128.size, ![1, 16, 1], inb_S1x8192x128_S1x512x128_0_4_0_s_1_16_1⟩ : LoadRect S1x8192x128) (harg2.unread x0) = X4 at e4 ⊢
  have e5 := str_at arg2 harg2 x0 5 (by decide) inb_S1x8192x128_S1x512x128_0_5_0_s_1_16_1
  generalize View.readAt (Elt Ideal) arg2.view (⟨![0, 5, 0], S1x512x128.size, ![1, 16, 1], inb_S1x8192x128_S1x512x128_0_5_0_s_1_16_1⟩ : LoadRect S1x8192x128) (harg2.unread x0) = X5 at e5 ⊢
  have e6 := str_at arg2 harg2 x0 6 (by decide) inb_S1x8192x128_S1x512x128_0_6_0_s_1_16_1
  generalize View.readAt (Elt Ideal) arg2.view (⟨![0, 6, 0], S1x512x128.size, ![1, 16, 1], inb_S1x8192x128_S1x512x128_0_6_0_s_1_16_1⟩ : LoadRect S1x8192x128) (harg2.unread x0) = X6 at e6 ⊢
  have e7 := str_at arg2 harg2 x0 7 (by decide) inb_S1x8192x128_S1x512x128_0_7_0_s_1_16_1
  generalize View.readAt (Elt Ideal) arg2.view (⟨![0, 7, 0], S1x512x128.size, ![1, 16, 1], inb_S1x8192x128_S1x512x128_0_7_0_s_1_16_1⟩ : LoadRect S1x8192x128) (harg2.unread x0) = X7 at e7 ⊢
  have e8 := str_at arg2 harg2 x0 8 (by decide) inb_S1x8192x128_S1x512x128_0_8_0_s_1_16_1
  generalize View.readAt (Elt Ideal) arg2.view (⟨![0, 8, 0], S1x512x128.size, ![1, 16, 1], inb_S1x8192x128_S1x512x128_0_8_0_s_1_16_1⟩ : LoadRect S1x8192x128) (harg2.unread x0) = X8 at e8 ⊢
  have e9 := str_at arg2 harg2 x0 9 (by decide) inb_S1x8192x128_S1x512x128_0_9_0_s_1_16_1
  generalize View.readAt (Elt Ideal) arg2.view (⟨![0, 9, 0], S1x512x128.size, ![1, 16, 1], inb_S1x8192x128_S1x512x128_0_9_0_s_1_16_1⟩ : LoadRect S1x8192x128) (harg2.unread x0) = X9 at e9 ⊢
  have e10 := str_at arg2 harg2 x0 10 (by decide) inb_S1x8192x128_S1x512x128_0_10_0_s_1_16_1
  generalize View.readAt (Elt Ideal) arg2.view (⟨![0, 10, 0], S1x512x128.size, ![1, 16, 1], inb_S1x8192x128_S1x512x128_0_10_0_s_1_16_1⟩ : LoadRect S1x8192x128) (harg2.unread x0) = X10 at e10 ⊢
  have e11 := str_at arg2 harg2 x0 11 (by decide) inb_S1x8192x128_S1x512x128_0_11_0_s_1_16_1
  generalize View.readAt (Elt Ideal) arg2.view (⟨![0, 11, 0], S1x512x128.size, ![1, 16, 1], inb_S1x8192x128_S1x512x128_0_11_0_s_1_16_1⟩ : LoadRect S1x8192x128) (harg2.unread x0) = X11 at e11 ⊢
  have e12 := str_at arg2 harg2 x0 12 (by decide) inb_S1x8192x128_S1x512x128_0_12_0_s_1_16_1
  generalize View.readAt (Elt Ideal) arg2.view (⟨![0, 12, 0], S1x512x128.size, ![1, 16, 1], inb_S1x8192x128_S1x512x128_0_12_0_s_1_16_1⟩ : LoadRect S1x8192x128) (harg2.unread x0) = X12 at e12 ⊢
  have e13 := str_at arg2 harg2 x0 13 (by decide) inb_S1x8192x128_S1x512x128_0_13_0_s_1_16_1
  generalize View.readAt (Elt Ideal) arg2.view (⟨![0, 13, 0], S1x512x128.size, ![1, 16, 1], inb_S1x8192x128_S1x512x128_0_13_0_s_1_16_1⟩ : LoadRect S1x8192x128) (harg2.unread x0) = X13 at e13 ⊢
  have e14 := str_at arg2 harg2 x0 14 (by decide) inb_S1x8192x128_S1x512x128_0_14_0_s_1_16_1
  generalize View.readAt (Elt Ideal) arg2.view (⟨![0, 14, 0], S1x512x128.size, ![1, 16, 1], inb_S1x8192x128_S1x512x128_0_14_0_s_1_16_1⟩ : LoadRect S1x8192x128) (harg2.unread x0) = X14 at e14 ⊢
  have e15 := str_at arg2 harg2 x0 15 (by decide) inb_S1x8192x128_S1x512x128_0_15_0_s_1_16_1
  generalize View.readAt (Elt Ideal) arg2.view (⟨![0, 15, 0], S1x512x128.size, ![1, 16, 1], inb_S1x8192x128_S1x512x128_0_15_0_s_1_16_1⟩ : LoadRect S1x8192x128) (harg2.unread x0) = X15 at e15 ⊢
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  refine Finset.sum_congr rfl fun j _ => ?_
  have hn : (⟨(n.val + 512 - 511) % 512, by omega⟩ : Fin 512) = ⟨(n.val + 1) % 512, by omega⟩ := Fin.ext (by dsimp only; omega)
  simp only [e0, e1, e2, e3, e4, e5, e6, e7, e8, e9, e10, e11, e12, e13, e14, e15, half_0, half_16, silu, zero_sub, add_zero, hn]

end Cert.CmpIdeal.Body
end
-- ==== Proof.CmpHost.lean ====
/- The arrays that the block compression's call takes: keys beside values, and the weights of the two heads on a diagonal. -/
module

public import proofs.«01_k».proof.Proof.CmpRows
public import proofs.«01_k».proof.Proof.Gen.CmpIdeal.Run

@[expose] public section

set_option maxRecDepth 16384

noncomputable section

namespace Cert.CmpIdeal.Final
open Cert.CmpIdeal Cert.CmpIdeal.Gen Idealize.ShloMosaic Idealize.ShloMosaic.TcCoe Idealize.SL.Sem Cert.CmpRows

variable (m : (ℓ : Loc nD τ sig) → Buf (Elt Ideal) ℓ)

/-- Every window's block at every grid point: the first coordinate is keys or values, the second the sequence. -/
theorem idx : ∀ t : Fin cfg0.N, win0_0.index t = ![t.val % 8, 0, t.val / 8] ∧ win0_1.index t = ![t.val / 8, 0, 0]
    ∧ win0_2.index t = ![t.val / 8, 0, 0, 0] ∧ win0_3.index t = ![t.val / 8, 0, 0] ∧ win0_4.index t = ![t.val / 8, 0, 0]
    ∧ win0_5.index t = ![t.val / 8, t.val % 8, 0, 0] :=
  (by decide +kernel : ∀ t : Fin grid0.N, _)

variable (c : Dev nD)

/-- The rows to compress: keys (`e = 0`) or values (`e = 1`). -/
def xs (e : Fin 2) : Vec Ideal S8x8192x128 .f32 := if e.val = 0 then m ((c : Thread nD τ).loc main_arg0) else m ((c : Thread nD τ).loc main_arg1)
/-- Their position rows. -/
def ps (e : Fin 2) : Vec Ideal S32x64 .f32 := if e.val = 0 then m ((c : Thread nD τ).loc main_arg2) else m ((c : Thread nD τ).loc main_arg6)
/-- Their first weights. -/
def u1 (e : Fin 2) : Vec Ideal S2048x256 .f32 := if e.val = 0 then m ((c : Thread nD τ).loc main_arg3) else m ((c : Thread nD τ).loc main_arg7)
/-- Their biases. -/
def bs (e : Fin 2) : Vec Ideal S256 .f32 := if e.val = 0 then m ((c : Thread nD τ).loc main_arg4) else m ((c : Thread nD τ).loc main_arg8)
/-- Their second weights. -/
def u2 (e : Fin 2) : Vec Ideal S256x64 .f32 := if e.val = 0 then m ((c : Thread nD τ).loc main_arg5) else m ((c : Thread nD τ).loc main_arg9)

/-- Position rows twice, side by side. -/
def P2 (p : Vec Ideal S32x64 .f32) : Vec Ideal S32x128 .f32 := concatenate S32x128 1 [⟨S32x64, p⟩, ⟨S32x64, p⟩] concatenates_S32x64_S32x64_S32x128_d1
/-- The first weights by position. -/
def W0 (w : Vec Ideal S2048x256 .f32) : Vec Ideal S32x64x256 .f32 := shapeCast S32x64x256 w shapeCasts_S2048x256_S32x64x256
/-- Zeros of the same shape. -/
def Z0 : Vec Ideal S32x64x256 .f32 := broadcastInDim S32x64x256 ![] bcast_S_S32x64x256 (constant (F := Ideal) S_ .f32 0x00000000#32)
/-- The first weights twice on the diagonal. -/
def W2 (w : Vec Ideal S2048x256 .f32) : Vec Ideal S32x128x512 .f32 :=
  concatenate S32x128x512 1 [⟨S32x64x512, concatenate S32x64x512 2 [⟨S32x64x256, W0 w⟩, ⟨S32x64x256, Z0⟩] concatenates_S32x64x256_S32x64x256_S32x64x512_d2⟩,
    ⟨S32x64x512, concatenate S32x64x512 2 [⟨S32x64x256, Z0⟩, ⟨S32x64x256, W0 w⟩] concatenates_S32x64x256_S32x64x256_S32x64x512_d2⟩] concatenates_S32x64x512_S32x64x512_S32x128x512_d1
/-- The bias twice. -/
def B2 (b : Vec Ideal S256 .f32) : Vec Ideal S512 .f32 := concatenate S512 0 [⟨S256, b⟩, ⟨S256, b⟩] concatenates_S256_S256_S512_d0
/-- Zeros in the shape of the second weights. -/
def Z1 : Vec Ideal S256x64 .f32 := broadcastInDim S256x64 ![] bcast_S_S256x64 (constant (F := Ideal) S_ .f32 0x00000000#32)
/-- The second weights twice on the diagonal. -/
def V2 (w : Vec Ideal S256x64 .f32) : Vec Ideal S512x128 .f32 :=
  concatenate S512x128 0 [⟨S256x128, concatenate S256x128 1 [⟨S256x64, w⟩, ⟨S256x64, Z1⟩] concatenates_S256x64_S256x64_S256x128_d1⟩,
    ⟨S256x128, concatenate S256x128 1 [⟨S256x64, Z1⟩, ⟨S256x64, w⟩] concatenates_S256x64_S256x64_S256x128_d1⟩] concatenates_S256x128_S256x128_S512x128_d0

theorem P2_at (p : Vec Ideal S32x64 .f32) (a : Fin 32) (k : Fin 128) : P2 p (ix2 a k) = p (ix2 a ⟨k % 64, by omega⟩) := by
  pointwise [P2]
  split_ifs <;> first | rfl | exact congrArg (fun n => p (ix2 a n)) (Fin.ext (by dsimp only; omega))
theorem W2_at (w : Vec Ideal S2048x256 .f32) (a : Fin 32) (k : Fin 128) (j : Fin 512) : W2 w (ix3 a k j)
    = if k.val / 64 = j.val / 256 then w (ix2 ⟨64 * a + k % 64, by omega⟩ ⟨j % 256, by omega⟩) else 0 := by
  by_cases hP : k.val / 64 = j.val / 256
  · refine Eq.trans ?_ (if_pos hP).symm
    pointwise [W2, W0, Z0]
    split_ifs
    all_goals first
      | (exfalso; omega)
      | exact congrArg₂ (fun n q => w (ix2 n q)) (Fin.ext (by first | omega | (dsimp only; done) | (dsimp only; omega))) (Fin.ext (by first | omega | (dsimp only; done) | (dsimp only; omega)))
  · refine Eq.trans ?_ (if_neg hP).symm
    pointwise [W2, W0, Z0]
    split_ifs
    all_goals first
      | rfl
      | exact Ideal.ofBits_zero
      | (exfalso; omega)
theorem B2_at (b : Vec Ideal S256 .f32) (j : Fin 512) : B2 b (ix1 j) = b (ix1 ⟨j % 256, by omega⟩) := by
  pointwise [B2]
  split_ifs <;> first | rfl | exact congrArg (fun n => b (ix1 n)) (Fin.ext (by dsimp only; omega))
theorem V2_at (w : Vec Ideal S256x64 .f32) (j : Fin 512) (v : Fin 128) : V2 w (ix2 j v)
    = if j.val / 256 = v.val / 64 then w (ix2 ⟨j % 256, by omega⟩ ⟨v % 64, by omega⟩) else 0 := by
  by_cases hP : j.val / 256 = v.val / 64
  · refine Eq.trans ?_ (if_pos hP).symm
    pointwise [V2, Z1]
    split_ifs
    all_goals first
      | (exfalso; omega)
      | exact congrArg₂ (fun n q => w (ix2 n q)) (Fin.ext (by first | omega | (dsimp only; done) | (dsimp only; omega))) (Fin.ext (by first | omega | (dsimp only; done) | (dsimp only; omega)))
  · refine Eq.trans ?_ (if_neg hP).symm
    pointwise [V2, Z1]
    split_ifs
    all_goals first
      | rfl
      | exact Ideal.ofBits_zero
      | (exfalso; omega)

theorem v0_eq : (V m c main_v0 : Vec Ideal S8x8192x256 .f32) = concatenate S8x8192x256 2
    [⟨S8x8192x128, (m ((c : Thread nD τ).loc main_arg0) : Vec Ideal S8x8192x128 .f32)⟩, ⟨S8x8192x128, (m ((c : Thread nD τ).loc main_arg1) : Vec Ideal S8x8192x128 .f32)⟩] concatenates_S8x8192x128_S8x8192x128_S8x8192x256_d2 := by
  unfold V V0
  simp only [hostOps0, List.flatten_cons, List.flatten_nil, List.append_nil, List.cons_append, List.nil_append]
  after_results <;> rfl
theorem v5_eq : (V m c main_v5 : Vec Ideal S2x32x128 .f32) = concatenate S2x32x128 0
    [⟨S1x32x128, broadcastInDim S1x32x128 ![1, 2] bcast_S32x128_S1x32x128_1_2 (P2 (m ((c : Thread nD τ).loc main_arg2)))⟩,
     ⟨S1x32x128, broadcastInDim S1x32x128 ![1, 2] bcast_S32x128_S1x32x128_1_2 (P2 (m ((c : Thread nD τ).loc main_arg6)))⟩] concatenates_S1x32x128_S1x32x128_S2x32x128_d0 := by
  unfold V V0
  simp only [hostOps0, List.flatten_cons, List.flatten_nil, List.append_nil, List.cons_append, List.nil_append]
  after_results <;> rfl
theorem v19_eq : (V m c main_v19 : Vec Ideal S2x32x128x512 .bf16) = truncf (F := Ideal) .bf16 (concatenate S2x32x128x512 0
    [⟨S1x32x128x512, broadcastInDim S1x32x128x512 ![1, 2, 3] bcast_S32x128x512_S1x32x128x512_1_2_3 (W2 (m ((c : Thread nD τ).loc main_arg3)))⟩,
     ⟨S1x32x128x512, broadcastInDim S1x32x128x512 ![1, 2, 3] bcast_S32x128x512_S1x32x128x512_1_2_3 (W2 (m ((c : Thread nD τ).loc main_arg7)))⟩] concatenates_S1x32x128x512_S1x32x128x512_S2x32x128x512_d0) bitsLt_bf16_f32 := by
  unfold V V0
  simp only [hostOps0, List.flatten_cons, List.flatten_nil, List.append_nil, List.cons_append, List.nil_append]
  after_results <;> rfl
theorem v26_eq : (V m c main_v26 : Vec Ideal S2x1x512 .f32) = concatenate S2x1x512 0
    [⟨S1x1x512, broadcastInDim S1x1x512 ![1, 2] bcast_S1x512_S1x1x512_1_2 (broadcastInDim S1x512 ![1] bcast_S512_S1x512_1 (B2 (m ((c : Thread nD τ).loc main_arg4))))⟩,
     ⟨S1x1x512, broadcastInDim S1x1x512 ![1, 2] bcast_S1x512_S1x1x512_1_2 (broadcastInDim S1x512 ![1] bcast_S512_S1x512_1 (B2 (m ((c : Thread nD τ).loc main_arg8))))⟩] concatenates_S1x1x512_S1x1x512_S2x1x512_d0 := by
  unfold V V0
  simp only [hostOps0, List.flatten_cons, List.flatten_nil, List.append_nil, List.cons_append, List.nil_append]
  after_results <;> rfl
theorem v38_eq : (V m c main_v38 : Vec Ideal S2x512x128 .bf16) = truncf (F := Ideal) .bf16 (concatenate S2x512x128 0
    [⟨S1x512x128, broadcastInDim S1x512x128 ![1, 2] bcast_S512x128_S1x512x128_1_2 (V2 (m ((c : Thread nD τ).loc main_arg5)))⟩,
     ⟨S1x512x128, broadcastInDim S1x512x128 ![1, 2] bcast_S512x128_S1x512x128_1_2 (V2 (m ((c : Thread nD τ).loc main_arg9)))⟩] concatenates_S1x512x128_S1x512x128_S2x512x128_d0) bitsLt_bf16_f32 := by
  unfold V V0
  simp only [hostOps0, List.flatten_cons, List.flatten_nil, List.append_nil, List.cons_append, List.nil_append]
  after_results <;> rfl

/-- The rows, as the call finds them: keys beside values. -/
theorem v0_at (b : Fin 8) (s : Fin 8192) (e : Fin 2) (k : Fin 128) : (V m c main_v0 : Vec Ideal S8x8192x256 .f32) (ix3 b s ⟨e * 128 + k, by omega⟩) = xs m c e (ix3 b s k) := by
  rw [v0_eq]
  unfold xs
  obtain rfl | rfl : e = 0 ∨ e = 1 := by omega
  · pointwise []
  · pointwise []
/-- The position rows twice. -/
theorem v5_at (e : Fin 2) (a : Fin 32) (k : Fin 128) : (V m c main_v5 : Vec Ideal S2x32x128 .f32) (ix3 e a k) = ps m c e (ix2 a ⟨k % 64, by omega⟩) := by
  rw [v5_eq]
  unfold ps
  obtain rfl | rfl : e = 0 ∨ e = 1 := by omega
  · pointwise [P2_at]
  · pointwise [P2_at]
/-- The first weights on the diagonal, a block for each head. -/
theorem v19_at (e : Fin 2) (a : Fin 32) (k : Fin 128) (j : Fin 512) : (V m c main_v19 : Vec Ideal S2x32x128x512 .bf16) (ix4 e a k j)
    = if k.val / 64 = j.val / 256 then u1 m c e (ix2 ⟨64 * a + k % 64, by omega⟩ ⟨j % 256, by omega⟩) else 0 := by
  rw [v19_eq]
  unfold u1
  obtain rfl | rfl : e = 0 ∨ e = 1 := by omega
  · pointwise [W2_at]
  · pointwise [W2_at]
/-- The biases twice. -/
theorem v26_at (e : Fin 2) (j : Fin 512) : (V m c main_v26 : Vec Ideal S2x1x512 .f32) (ix3 e 0 j) = bs m c e (ix1 ⟨j % 256, by omega⟩) := by
  rw [v26_eq]
  unfold bs
  obtain rfl | rfl : e = 0 ∨ e = 1 := by omega
  · pointwise [B2_at]
  · pointwise [B2_at]
/-- The second weights on the diagonal, a block for each head. -/
theorem v38_at (e : Fin 2) (j : Fin 512) (v : Fin 128) : (V m c main_v38 : Vec Ideal S2x512x128 .bf16) (ix3 e j v)
    = if j.val / 256 = v.val / 64 then u2 m c e (ix2 ⟨j % 256, by omega⟩ ⟨v % 64, by omega⟩) else 0 := by
  rw [v38_eq]
  unfold u2
  obtain rfl | rfl : e = 0 ∨ e = 1 := by omega
  · pointwise [V2_at]
  · pointwise [V2_at]

end Cert.CmpIdeal.Final
end
-- ==== Proof.CmpValue.lean ====
/- The array of the block compression's call after the kernel's run: for every block of 32 rows, the compressed keys and values of both heads. -/
module

public import proofs.«01_k».proof.Proof.CmpHost

@[expose] public section

set_option maxRecDepth 16384

noncomputable section

namespace Cert.CmpIdeal.Final
open Cert.CmpIdeal Cert.CmpIdeal.Gen Idealize.ShloMosaic Idealize.ShloMosaic.TcCoe Idealize.SL.Sem Cert.CmpRows

variable (m : (ℓ : Loc nD τ sig) → Buf (Elt Ideal) ℓ) (c : Dev nD)

/-- Keys or values at a grid point. -/
def kv (t : Fin cfg0.N) : Fin 2 := ⟨t.val / 8, by have : t.val < 16 := t.isLt; omega⟩
/-- The sequence at a grid point. -/
def sq (t : Fin cfg0.N) : Fin 8 := ⟨t.val % 8, by omega⟩

theorem b0 (t : Fin cfg0.N) (s : Fin 8192) (k : Fin 128) : (iblk m c 0 t : Vec Ideal S1x8192x128 .f32) (ix3 0 s k) = xs m c (kv t) (ix3 (sq t) s k) := by
  have ht : t.val < 16 := t.isLt
  have he : (win0_0.blk t).view.emb (ix3 0 s k) = (ix3 (sq t) s ⟨(kv t).val * 128 + k, by have := (kv t).isLt; omega⟩ : S8x8192x256.Idx) := by
    funext z
    match z with
    | ⟨0, _⟩ => apply Fin.ext; blk_simp [idx t, sq, kv]; exact Nat.add_zero _
    | ⟨1, _⟩ => apply Fin.ext; blk_simp [idx t, sq, kv]
    | ⟨2, _⟩ => apply Fin.ext; blk_simp [idx t, sq, kv]
  exact (congrArg (V m c main_v0) he).trans (v0_at m c (sq t) s (kv t) k)
theorem b1 (t : Fin cfg0.N) (a : Fin 32) (k : Fin 128) : (iblk m c 1 t : Vec Ideal S1x32x128 .f32) (ix3 0 a k) = ps m c (kv t) (ix2 a ⟨k % 64, by omega⟩) := by
  have he : (win0_1.blk t).view.emb (ix3 0 a k) = (ix3 (kv t) a k : S2x32x128.Idx) := by
    funext z
    match z with
    | ⟨0, _⟩ => apply Fin.ext; blk_simp [idx t, sq, kv]; exact Nat.add_zero _
    | ⟨1, _⟩ => apply Fin.ext; blk_simp [idx t, sq, kv]
    | ⟨2, _⟩ => apply Fin.ext; blk_simp [idx t, sq, kv]
  exact (congrArg (V m c main_v5) he).trans (v5_at m c (kv t) a k)
theorem b2 (t : Fin cfg0.N) (a : Fin 32) (k : Fin 128) (j : Fin 512) : (iblk m c 2 t : Vec Ideal S1x32x128x512 .bf16) (ix4 0 a k j)
    = if k.val / 64 = j.val / 256 then u1 m c (kv t) (ix2 ⟨64 * a + k % 64, by omega⟩ ⟨j % 256, by omega⟩) else 0 := by
  have he : (win0_2.blk t).view.emb (ix4 0 a k j) = (ix4 (kv t) a k j : S2x32x128x512.Idx) := by
    funext z
    match z with
    | ⟨0, _⟩ => apply Fin.ext; blk_simp [idx t, sq, kv]; exact Nat.add_zero _
    | ⟨1, _⟩ => apply Fin.ext; blk_simp [idx t, sq, kv]
    | ⟨2, _⟩ => apply Fin.ext; blk_simp [idx t, sq, kv]
    | ⟨3, _⟩ => apply Fin.ext; blk_simp [idx t, sq, kv]
  exact (congrArg (V m c main_v19) he).trans (v19_at m c (kv t) a k j)
theorem b3 (t : Fin cfg0.N) (j : Fin 512) : (iblk m c 3 t : Vec Ideal S1x1x512 .f32) (ix3 0 0 j) = bs m c (kv t) (ix1 ⟨j % 256, by omega⟩) := by
  have he : (win0_3.blk t).view.emb (ix3 0 0 j) = (ix3 (kv t) 0 j : S2x1x512.Idx) := by
    funext z
    match z with
    | ⟨0, _⟩ => apply Fin.ext; blk_simp [idx t, sq, kv]; exact Nat.add_zero _
    | ⟨1, _⟩ => apply Fin.ext; blk_simp [idx t, sq, kv]
    | ⟨2, _⟩ => apply Fin.ext; blk_simp [idx t, sq, kv]
  exact (congrArg (V m c main_v26) he).trans (v26_at m c (kv t) j)
theorem b4 (t : Fin cfg0.N) (j : Fin 512) (v : Fin 128) : (iblk m c 4 t : Vec Ideal S1x512x128 .bf16) (ix3 0 j v)
    = if j.val / 256 = v.val / 64 then u2 m c (kv t) (ix2 ⟨j % 256, by omega⟩ ⟨v % 64, by omega⟩) else 0 := by
  have he : (win0_4.blk t).view.emb (ix3 0 j v) = (ix3 (kv t) j v : S2x512x128.Idx) := by
    funext z
    match z with
    | ⟨0, _⟩ => apply Fin.ext; blk_simp [idx t, sq, kv]; exact Nat.add_zero _
    | ⟨1, _⟩ => apply Fin.ext; blk_simp [idx t, sq, kv]
    | ⟨2, _⟩ => apply Fin.ext; blk_simp [idx t, sq, kv]
  exact (congrArg (V m c main_v38) he).trans (v38_at m c (kv t) j v)

/-- Sixteen positions, from `o` on, of the hidden unit `j` over both heads' lanes: rows `16 n` to `16 n + 15`. -/
def hf (e : Fin 2) (b : Fin 8) (o : ℕ) (ho : o ≤ 16) (n : Fin 512) (j : Fin 512) : EReal :=
  ∑ a : Fin 16, ∑ k : Fin 128, (xs m c e (ix3 b ⟨16 * n + a, by omega⟩ k) + ps m c e (ix2 ⟨o + a, by omega⟩ ⟨k % 64, by omega⟩))
    * (if k.val / 64 = j.val / 256 then u1 m c e (ix2 ⟨64 * (o + a) + k % 64, by omega⟩ ⟨j % 256, by omega⟩) else 0)

theorem half_eq (t : Fin cfg0.N) (o : ℕ) (ho : o ≤ 16) (n j : Fin 512) : Body.half (iblk m c 0 t) (iblk m c 1 t) (iblk m c 2 t) o ho n j = hf m c (kv t) (sq t) o ho n j := by
  unfold Body.half hf
  simp only [b0, b1, b2]

/-- The call's result over both heads' lanes. -/
def ko (e : Fin 2) (b : Fin 8) (n : Fin 512) (v : Fin 128) : EReal :=
  ∑ j : Fin 512, silu (hf m c e b 0 (by decide) n j + hf m c e b 16 (by decide) ⟨(n + 1) % 512, by omega⟩ j + bs m c e (ix1 ⟨j % 256, by omega⟩))
    * (if j.val / 256 = v.val / 64 then u2 m c e (ix2 ⟨j % 256, by omega⟩ ⟨v % 64, by omega⟩) else 0)

/-- The call's array, index by index. -/
def RES : Vec Ideal S2x8x512x128 .bf16 := fun i => ko m c (i 0) (i 1) (i 2) (i 3)

/-- The call's array after the whole grid. -/
theorem final : ((dats m 0 c).arrAt 5 (cfgs 0).N : Vec Ideal S2x8x512x128 .bf16) = RES m c := by
  refine (dats m 0 c).arrAt_eq_of_covers 5 _ (by decide +kernel) fun t _ y => ?_
  have ht : t.val < 16 := t.isLt
  blk_simp
  rw [after0_5]
  unfold outsAt0
  dsimp only
  obtain ⟨a0, a1, n, v, rfl⟩ : ∃ (a0 : Fin 1) (a1 : Fin 1) (n : Fin 512) (v : Fin 128), y = ix4 a0 a1 n v := ⟨y 0, y 1, y 2, y 3, eq_ix4 y⟩
  obtain rfl : a0 = 0 := by omega
  obtain rfl : a1 = 0 := by omega
  have h0 : (((cfg0.win 5).blk t).view.emb (ix4 0 0 n v)) 0 = kv t := by apply Fin.ext; blk_simp [idx t, kv]; exact Nat.add_zero _
  have h1 : (((cfg0.win 5).blk t).view.emb (ix4 0 0 n v)) 1 = sq t := by apply Fin.ext; blk_simp [idx t, sq]; exact Nat.add_zero _
  have h2 : (((cfg0.win 5).blk t).view.emb (ix4 0 0 n v)) 2 = (n : Fin 512) := by apply Fin.ext; blk_simp [idx t]
  have h3 : (((cfg0.win 5).blk t).view.emb (ix4 0 0 n v)) 3 = (v : Fin 128) := by apply Fin.ext; blk_simp [idx t]
  unfold RES
  rw [h0, h1, h2, h3]
  refine (Body.out_at ..).trans ?_
  unfold ko
  simp only [half_eq, b3, b4]

/-- A sum in which only one half's terms count is the sum over that half. -/
theorem pick {M : ℕ} (hM : 0 < M) (h : Fin 2) (f : Fin (M + M) → EReal) :
    (∑ k : Fin (M + M), if k.val / M = h.val then f k else 0) = ∑ k : Fin M, f ⟨h.val * M + k.val, by have := h.isLt; have := k.isLt; nlinarith⟩ := by
  rw [Fin.sum_univ_add]
  have hl : ∀ i : Fin M, (Fin.castAdd M i).val / M = 0 := fun i => Nat.div_eq_of_lt i.isLt
  have hr : ∀ i : Fin M, (Fin.natAdd M i).val / M = 1 := fun i => by
    show (M + i.val) / M = 1
    rw [Nat.add_div_left _ hM, Nat.div_eq_of_lt i.isLt]
  simp only [hl, hr]
  obtain rfl | rfl : h = 0 ∨ h = 1 := by omega
  · simp only [Fin.val_zero, if_true, one_ne_zero, if_false, Finset.sum_const_zero, add_zero]
    exact Finset.sum_congr rfl fun i _ => congrArg f (Fin.ext (by show i.val = 0 * M + i.val; omega))
  · simp only [Fin.val_one, zero_ne_one, if_true, if_false, Finset.sum_const_zero, zero_add]
    exact Finset.sum_congr rfl fun i _ => congrArg f (Fin.ext (by show M + i.val = 1 * M + i.val; omega))

/-- Sixteen positions, from `o` on, of one head's hidden unit `j`: rows `16 n` to `16 n + 15`, that head's 64 lanes. -/
def hh (e : Fin 2) (b : Fin 8) (h : Fin 2) (o : ℕ) (ho : o ≤ 16) (n : Fin 512) (j : Fin 256) : EReal :=
  ∑ a : Fin 16, ∑ k : Fin 64, (xs m c e (ix3 b ⟨16 * n + a, by omega⟩ ⟨64 * h + k, by omega⟩) + ps m c e (ix2 ⟨o + a, by omega⟩ k))
    * u1 m c e (ix2 ⟨64 * (o + a) + k, by omega⟩ j)

/-- The other head's lanes meet only zeros. -/
theorem hf_eq (e : Fin 2) (b : Fin 8) (h : Fin 2) (o : ℕ) (ho : o ≤ 16) (n : Fin 512) (j : Fin 256) : hf m c e b o ho n ⟨h.val * 256 + j, by omega⟩ = hh m c e b h o ho n j := by
  unfold hf hh
  refine Finset.sum_congr rfl fun a _ => ?_
  have hj : (h.val * 256 + j.val) / 256 = h.val := by omega
  have hj' : (h.val * 256 + j.val) % 256 = j.val := by omega
  refine Eq.trans (Finset.sum_congr rfl fun k _ => ?_) ((pick (M := 64) (by decide) h (fun k => (xs m c e (ix3 b ⟨16 * n + a, by omega⟩ k) + ps m c e (ix2 ⟨o + a, by omega⟩ ⟨k % 64, by omega⟩))
    * u1 m c e (ix2 ⟨64 * (o + a) + k % 64, by omega⟩ j))).trans (Finset.sum_congr rfl fun k _ => ?_))
  · rw [mul_ite, mul_zero]
    dsimp only
    simp only [hj, hj']
  · have hk : (64 * h.val + k.val) % 64 = k.val := by omega
    have hk' : h.val * 64 + k.val = 64 * h.val + k.val := by omega
    simp only [hk', hk]

/-- A block's compressed row: 32 rows of one head, positions added, through the two layers. -/
def cmp (e : Fin 2) (b : Fin 8) (h : Fin 2) (n : Fin 511) (d : Fin 64) : EReal :=
  ∑ j : Fin 256, silu (hh m c e b h 0 (by decide) ⟨n, by omega⟩ j + hh m c e b h 16 (by decide) ⟨n + 1, by omega⟩ j + bs m c e (ix1 j)) * u2 m c e (ix2 j d)

theorem ko_eq (e : Fin 2) (b : Fin 8) (h : Fin 2) (n : Fin 511) (d : Fin 64) : ko m c e b ⟨n, by omega⟩ ⟨64 * h + d, by omega⟩ = cmp m c e b h n d := by
  unfold ko cmp
  have hv : (64 * h.val + d.val) / 64 = h.val := by omega
  have hv' : (64 * h.val + d.val) % 64 = d.val := by omega
  have hn : (n.val + 1) % 512 = n.val + 1 := by omega
  refine Eq.trans (Finset.sum_congr rfl fun j _ => ?_) ((pick (M := 256) (by decide) h (fun j => silu (hf m c e b 0 (by decide) ⟨n, by omega⟩ j + hf m c e b 16 (by decide) ⟨n + 1, by omega⟩ j + bs m c e (ix1 ⟨j % 256, by omega⟩))
    * u2 m c e (ix2 ⟨j % 256, by omega⟩ d))).trans (Finset.sum_congr rfl fun j _ => ?_))
  · rw [mul_ite, mul_zero]
    dsimp only
    simp only [hv, hv', hn]
  · have hj : (h.val * 256 + j.val) % 256 = j.val := by omega
    simp only [hj, hf_eq]

/-- The call's array at block `n`, head `h`, lane `d`. -/
theorem out_at (e : Fin 2) (b : Fin 8) (h : Fin 2) (n : Fin 511) (d : Fin 64) :
    (Value.reg_main_v39 m c : Vec Ideal S2x8x512x128 .bf16) (ix4 e b ⟨n, by omega⟩ ⟨64 * h + d, by omega⟩) = cmp m c e b h n d :=
  (congrFun (final m c) _).trans (ko_eq m c e b h n d)

end Cert.CmpIdeal.Final
end
-- ==== Proof.CmpRef.lean ====
/- The reference of the block compression, read at one block, one head and one lane. -/
module

public import proofs.«01_k».proof.Proof.CmpRows
public import proofs.«01_k».proof.Proof.Gen.RefCmpIdeal.Run

@[expose] public section

set_option maxRecDepth 16384

noncomputable section

namespace Cert.RefCmpIdeal.Rows
open Cert.RefCmpIdeal Cert.RefCmpIdeal.Gen Idealize.ShloMosaic Idealize.ShloMosaic.TcCoe Cert.CmpRows

variable (x : Vec Ideal S8x8192x128 .f32) (p : Vec Ideal S32x64 .f32) (u : Vec Ideal S2048x256 .f32) (b1 : Vec Ideal S256 .f32) (w : Vec Ideal S256x64 .f32)

/-- A sum of 2048 products. -/
def dot2k (a w : Fin 2048 → EReal) : EReal := ∑ q, a q * w q

/-- Overlapping blocks of 32 rows: 16 rows and the 16 after them. -/
def BLK : Vec Ideal S8x511x32x2x64 .f32 :=
  concatenate S8x511x32x2x64 2 [⟨S8x511x16x2x64, (extractStridedSlice S8x511x16x2x64 ![0, 0, 0, 0, 0] (shapeCast S8x512x16x2x64 (shapeCast S8x8192x2x64 x shapeCasts_S8x8192x128_S8x8192x2x64) shapeCasts_S8x8192x2x64_S8x512x16x2x64) slices_S8x512x16x2x64_S8x511x16x2x64_0_0_0_0_0)⟩,
    ⟨S8x511x16x2x64, (extractStridedSlice S8x511x16x2x64 ![0, 1, 0, 0, 0] (shapeCast S8x512x16x2x64 (shapeCast S8x8192x2x64 x shapeCasts_S8x8192x128_S8x8192x2x64) shapeCasts_S8x8192x2x64_S8x512x16x2x64) slices_S8x512x16x2x64_S8x511x16x2x64_0_1_0_0_0)⟩] concatenates_S8x511x16x2x64_S8x511x16x2x64_S8x511x32x2x64_d2

/-- Row `a` of block `n` is row `16 n + a` of the sequence. -/
theorem BLK_at (b : Fin 8) (n : Fin 511) (a : Fin 32) (h : Fin 2) (k : Fin 64) : BLK x (ix5 b n a h k) = x (ix3 b ⟨16 * n + a, by omega⟩ ⟨64 * h + k, by omega⟩) := by
  pointwise [BLK]
  split_ifs
  all_goals exact congrArg₂ (fun n q => x (ix3 b n q)) (Fin.ext (by first | omega | (dsimp only; done) | (dsimp only; omega))) (Fin.ext (by first | omega | (dsimp only; done) | (dsimp only; omega)))

/-- Every block with the positions added, flattened. -/
def FLAT : Vec Ideal S8x511x2x2048 .f32 :=
  shapeCast S8x511x2x2048 (transpose S8x511x2x32x64 [0, 1, 3, 2, 4] (addf (F := Ideal) (φ := .f32) (BLK x) (broadcastInDim S8x511x32x2x64 ![0, 1, 2, 3, 4] bcast_S1x1x32x1x64_S8x511x32x2x64_0_1_2_3_4 (broadcastInDim S1x1x32x1x64 ![2, 4] bcast_S32x64_S1x1x32x1x64_2_4 p))) transposes_S8x511x32x2x64_S8x511x2x32x64_0_1_3_2_4) shapeCasts_S8x511x2x32x64_S8x511x2x2048

theorem FLAT_at (b : Fin 8) (n : Fin 511) (h : Fin 2) (q : Fin 2048) : FLAT x p (ix4 b n h q)
    = x (ix3 b ⟨16 * n + q / 64, by omega⟩ ⟨64 * h + q % 64, by omega⟩) + p (ix2 ⟨q / 64, by omega⟩ ⟨q % 64, by omega⟩) := by
  pointwise [FLAT, BLK_at]

theorem D1 (X : Vec Ideal S8x511x2x2048 .f32) (b : Fin 8) (n : Fin 511) (h : Fin 2) (j : Fin 256) :
    Host.dotGeneral (F := Ideal) (φ₁ := .f32) (φ₂ := .f32) dot_S8x511x2x2048_S2048x256_S8x511x2x256_3_0_012_1_n_n none X u (ix4 b n h j)
      = dot2k (fun q => X (ix4 b n h q)) (fun q => u (ix2 q j)) := by
  pointwise [dot2k]
theorem D2 (b : Fin 8) (n : Fin 511) (h : Fin 2) (j : Fin 256) :
    (broadcastInDim S8x511x2x256 ![0, 1, 2, 3] bcast_S1x1x1x256_S8x511x2x256_0_1_2_3 (broadcastInDim S1x1x1x256 ![3] bcast_S256_S1x1x1x256_3 b1)) (ix4 b n h j) = b1 (ix1 j) := by
  pointwise []
/-- The gate, as the reference writes it. -/
def GATE (X : Vec Ideal S8x511x2x256 .f32) : Vec Ideal S8x511x2x256 .f32 :=
  mulf (F := Ideal) X (Host.divf (F := Ideal) (broadcastInDim S8x511x2x256 ![] bcast_S_S8x511x2x256 (constant (F := Ideal) S_ .f32 0x3F800000#32))
    (addf (F := Ideal) (broadcastInDim S8x511x2x256 ![] bcast_S_S8x511x2x256 (constant (F := Ideal) S_ .f32 0x3F800000#32)) (Host.exp (F := Ideal) (Host.negf (F := Ideal) X))))
theorem D3 (X : Vec Ideal S8x511x2x256 .f32) (b : Fin 8) (n : Fin 511) (h : Fin 2) (j : Fin 256) : GATE X (ix4 b n h j) = silu (X (ix4 b n h j)) := by
  pointwise [GATE, silu]
theorem D4 (X : Vec Ideal S8x511x2x256 .f32) (b : Fin 8) (n : Fin 511) (h : Fin 2) (j : Fin 64) :
    Host.dotGeneral (F := Ideal) (φ₁ := .f32) (φ₂ := .f32) dot_S8x511x2x256_S256x64_S8x511x2x64_3_0_012_1_n_n none X w (ix4 b n h j) = ∑ q : Fin 256, X (ix4 b n h q) * w (ix2 q j) := by
  pointwise []

/-- The hidden layer before its gate. -/
def HID : Vec Ideal S8x511x2x256 .f32 :=
  addf (F := Ideal) (Host.dotGeneral (F := Ideal) (φ₁ := .f32) (φ₂ := .f32) dot_S8x511x2x2048_S2048x256_S8x511x2x256_3_0_012_1_n_n none (FLAT x p) u)
    (broadcastInDim S8x511x2x256 ![0, 1, 2, 3] bcast_S1x1x1x256_S8x511x2x256_0_1_2_3 (broadcastInDim S1x1x1x256 ![3] bcast_S256_S1x1x1x256_3 b1))

/-- A block's row before the first layer: position `q / 64`, lane `q % 64`. -/
def row (b : Fin 8) (n : Fin 511) (h : Fin 2) (q : Fin 2048) : EReal :=
  x (ix3 b ⟨16 * n + q / 64, by omega⟩ ⟨64 * h + q % 64, by omega⟩) + p (ix2 ⟨q / 64, by omega⟩ ⟨q % 64, by omega⟩)

theorem D5 (b : Fin 8) (n : Fin 511) (h : Fin 2) (j : Fin 256) :
    Host.dotGeneral (F := Ideal) (φ₁ := .f32) (φ₂ := .f32) dot_S8x511x2x2048_S2048x256_S8x511x2x256_3_0_012_1_n_n none (FLAT x p) u (ix4 b n h j)
      = dot2k (row x p b n h) (fun q => u (ix2 q j)) :=
  (D1 u (FLAT x p) b n h j).trans (congrArg (fun f => dot2k f (fun q => u (ix2 q j))) (funext fun q => FLAT_at x p b n h q))

theorem addf_at {s : Shape} (A B : Vec Ideal s .f32) (i : s.Idx) : addf (F := Ideal) (φ := .f32) A B i = A i + B i := rfl

theorem HID_at (b : Fin 8) (n : Fin 511) (h : Fin 2) (j : Fin 256) : HID x p u b1 (ix4 b n h j)
    = dot2k (row x p b n h) (fun q => u (ix2 q j)) + b1 (ix1 j) := by
  unfold HID
  rw [addf_at, D5, D2]

/-- The compressed blocks, as the reference writes them. -/
def OUT : Vec Ideal S8x511x2x64 .bf16 :=
  truncf (F := Ideal) .bf16 (Host.dotGeneral (F := Ideal) (φ₁ := .f32) (φ₂ := .f32) dot_S8x511x2x256_S256x64_S8x511x2x64_3_0_012_1_n_n none
    (GATE (HID x p u b1)) w) bitsLt_bf16_f32

theorem OUT_at (b : Fin 8) (n : Fin 511) (h : Fin 2) (d : Fin 64) : OUT x p u b1 w (ix4 b n h d)
    = ∑ j : Fin 256, silu (HID x p u b1 (ix4 b n h j)) * w (ix2 j d) := by
  refine (D4 w (GATE (HID x p u b1)) b n h d).trans ?_
  simp only [D3]

/-- A sum over a product, row by row. -/
theorem sum_rows {N A B : ℕ} (hN : N = A * B) (f : Fin N → EReal) : ∑ q, f q
    = ∑ a : Fin A, ∑ k : Fin B, f ⟨B * a.val + k.val, by have := a.isLt; have := k.isLt; subst hN; nlinarith⟩ := by
  subst hN
  refine ((finProdFinEquiv (m := A) (n := B)).sum_comp f).symm.trans ((Fintype.sum_prod_type _).trans ?_)
  refine Finset.sum_congr rfl fun a _ => Finset.sum_congr rfl fun k _ => congrArg f (Fin.ext ?_)
  show k.val + B * a.val = B * a.val + k.val
  omega

/-- A sum over twice as many, half by half. -/
theorem sum_halves {N M : ℕ} (hN : N = M + M) (f : Fin N → EReal) : ∑ a, f a
    = (∑ a : Fin M, f ⟨0 + a.val, by have := a.isLt; omega⟩) + ∑ a : Fin M, f ⟨M + a.val, by have := a.isLt; omega⟩ := by
  subst hN
  rw [Fin.sum_univ_add]
  exact congrArg₂ (· + ·) (Finset.sum_congr rfl fun a _ => congrArg f (Fin.ext (Nat.zero_add _).symm)) (Finset.sum_congr rfl fun a _ => congrArg f (Fin.ext rfl))

/-- A sum over 2048 is a sum over 32 positions of 64 lanes, the first 16 and the last 16 apart. -/
theorem sum2048 (f : Fin 2048 → EReal) : ∑ q, f q
    = (∑ a : Fin 16, ∑ k : Fin 64, f ⟨64 * (0 + a) + k, by omega⟩) + ∑ a : Fin 16, ∑ k : Fin 64, f ⟨64 * (16 + a) + k, by omega⟩ :=
  (sum_rows (A := 32) (B := 64) (by norm_num) f).trans (sum_halves (M := 16) (by norm_num) fun a => ∑ k : Fin 64, f ⟨64 * a + k, by have := a.isLt; omega⟩)

/-- The hidden layer's sum in two halves of 16 positions. -/
theorem HID_split (b : Fin 8) (n : Fin 511) (h : Fin 2) (j : Fin 256) : HID x p u b1 (ix4 b n h j)
    = (∑ a : Fin 16, ∑ k : Fin 64, (x (ix3 b ⟨16 * n + a, by omega⟩ ⟨64 * h + k, by omega⟩) + p (ix2 ⟨0 + a, by omega⟩ k)) * u (ix2 ⟨64 * (0 + a) + k, by omega⟩ j))
      + (∑ a : Fin 16, ∑ k : Fin 64, (x (ix3 b ⟨16 * (n + 1) + a, by omega⟩ ⟨64 * h + k, by omega⟩) + p (ix2 ⟨16 + a, by omega⟩ k)) * u (ix2 ⟨64 * (16 + a) + k, by omega⟩ j))
      + b1 (ix1 j) := by
  rw [HID_at]
  unfold dot2k
  rw [sum2048]
  unfold row
  have h1 : ∀ (o : ℕ) (a : Fin 16) (k : Fin 64), (64 * (o + a.val) + k.val) / 64 = o + a.val := fun o a k => by omega
  have h2 : ∀ (o : ℕ) (a : Fin 16) (k : Fin 64), (64 * (o + a.val) + k.val) % 64 = k.val := fun o a k => by omega
  have h3 : ∀ a : Fin 16, 16 * n.val + (0 + a.val) = 16 * n.val + a.val := fun a => by omega
  have h4 : ∀ a : Fin 16, 16 * n.val + (16 + a.val) = 16 * (n.val + 1) + a.val := fun a => by omega
  simp only [h1, h2, h3, h4]

end Cert.RefCmpIdeal.Rows
end
-- ==== Proof.CmpClaim.lean ====
/- The kernel of the block compression computes what its reference computes. -/
module

public import proofs.«01_k».proof.Defs
public import proofs.«01_k».proof.Proof.CmpValue
public import proofs.«01_k».proof.Proof.CmpRef
public import Idealize.ShloMosaic.Lib.Tactic.CleanTypes
public import Idealize.ShloMosaic.Lib.Claim
public import Idealize.ShloMosaic.Lib.Quiescent

@[expose] public section

set_option maxRecDepth 16384
set_option maxHeartbeats 2000000

noncomputable section

namespace Cert.CmpClaim

open Idealize.ShloMosaic Idealize.ShloMosaic.TcCoe Idealize.SL.Sem Cert.CmpIdeal.Final

variable (m : (ℓ : Loc CmpIdeal.nD CmpIdeal.τ CmpIdeal.sig) → Buf (Elt Ideal) ℓ) (c : Dev CmpIdeal.nD)

/-- The reference's compressed row is the call's. -/
theorem row_eq (e : Fin 2) (b : Fin 8) (n : Fin 511) (h : Fin 2) (d : Fin 64) :
    RefCmpIdeal.Rows.OUT (xs m c e) (ps m c e) (u1 m c e) (bs m c e) (u2 m c e) (ix4 b n h d) = CmpIdeal.Final.cmp m c e b h n d := by
  refine (RefCmpIdeal.Rows.OUT_at _ _ _ _ _ b n h d).trans ?_
  unfold CmpIdeal.Final.cmp
  refine Finset.sum_congr rfl fun j _ => ?_
  rw [RefCmpIdeal.Rows.HID_split]
  rfl

/-- The kernel's keys and values, cut out of the call's array. -/
def K0 : Vec Ideal CmpIdeal.S8x511x2x64 .bf16 :=
  shapeCast CmpIdeal.S8x511x2x64 (extractStridedSlice CmpIdeal.S1x8x511x2x64 ![0, 0, 0, 0, 0] (shapeCast CmpIdeal.S2x8x511x2x64
    (extractStridedSlice CmpIdeal.S2x8x511x128 ![0, 0, 0, 0] (CmpIdeal.Value.reg_main_v39 m c : Vec Ideal CmpIdeal.S2x8x512x128 .bf16) CmpIdeal.Gen.slices_S2x8x512x128_S2x8x511x128_0_0_0_0) CmpIdeal.Gen.shapeCasts_S2x8x511x128_S2x8x511x2x64)
    CmpIdeal.Gen.slices_S2x8x511x2x64_S1x8x511x2x64_0_0_0_0_0) CmpIdeal.Gen.shapeCasts_S1x8x511x2x64_S8x511x2x64
def K1 : Vec Ideal CmpIdeal.S8x511x2x64 .bf16 :=
  shapeCast CmpIdeal.S8x511x2x64 (extractStridedSlice CmpIdeal.S1x8x511x2x64 ![1, 0, 0, 0, 0] (shapeCast CmpIdeal.S2x8x511x2x64
    (extractStridedSlice CmpIdeal.S2x8x511x128 ![0, 0, 0, 0] (CmpIdeal.Value.reg_main_v39 m c : Vec Ideal CmpIdeal.S2x8x512x128 .bf16) CmpIdeal.Gen.slices_S2x8x512x128_S2x8x511x128_0_0_0_0) CmpIdeal.Gen.shapeCasts_S2x8x511x128_S2x8x511x2x64)
    CmpIdeal.Gen.slices_S2x8x511x2x64_S1x8x511x2x64_1_0_0_0_0) CmpIdeal.Gen.shapeCasts_S1x8x511x2x64_S8x511x2x64

theorem K0_at (b : Fin 8) (n : Fin 511) (h : Fin 2) (d : Fin 64) : K0 m c (ix4 b n h d) = CmpIdeal.Final.cmp m c 0 b h n d := by
  have hl : (⟨h.val * 64 + d.val, by omega⟩ : Fin 128) = ⟨64 * h.val + d.val, by omega⟩ := Fin.ext (by show h.val * 64 + d.val = 64 * h.val + d.val; omega)
  refine Eq.trans ?_ (out_at m c 0 b h n d)
  unfold K0
  generalize (CmpIdeal.Value.reg_main_v39 m c : Vec Ideal CmpIdeal.S2x8x512x128 .bf16) = E
  pointwise []
  exact congrArg (fun l => E (ix4 _ b _ l)) hl
theorem K1_at (b : Fin 8) (n : Fin 511) (h : Fin 2) (d : Fin 64) : K1 m c (ix4 b n h d) = CmpIdeal.Final.cmp m c 1 b h n d := by
  have hl : (⟨h.val * 64 + d.val, by omega⟩ : Fin 128) = ⟨64 * h.val + d.val, by omega⟩ := Fin.ext (by show h.val * 64 + d.val = 64 * h.val + d.val; omega)
  refine Eq.trans ?_ (out_at m c 1 b h n d)
  unfold K1
  generalize (CmpIdeal.Value.reg_main_v39 m c : Vec Ideal CmpIdeal.S2x8x512x128 .bf16) = E
  pointwise []
  exact congrArg (fun l => E (ix4 _ b _ l)) hl

/-- The reference's keys are the kernel's. -/
theorem out_eq0 : RefCmpIdeal.Rows.OUT (m ((c : Thread CmpIdeal.nD CmpIdeal.τ).loc CmpIdeal.main_arg0)) (m ((c : Thread CmpIdeal.nD CmpIdeal.τ).loc CmpIdeal.main_arg2)) (m ((c : Thread CmpIdeal.nD CmpIdeal.τ).loc CmpIdeal.main_arg3)) (m ((c : Thread CmpIdeal.nD CmpIdeal.τ).loc CmpIdeal.main_arg4)) (m ((c : Thread CmpIdeal.nD CmpIdeal.τ).loc CmpIdeal.main_arg5)) = K0 m c := by
  have e_xs : xs m c 0 = m ((c : Thread CmpIdeal.nD CmpIdeal.τ).loc CmpIdeal.main_arg0) := if_pos rfl
  have e_ps : ps m c 0 = m ((c : Thread CmpIdeal.nD CmpIdeal.τ).loc CmpIdeal.main_arg2) := if_pos rfl
  have e_u1 : u1 m c 0 = m ((c : Thread CmpIdeal.nD CmpIdeal.τ).loc CmpIdeal.main_arg3) := if_pos rfl
  have e_bs : bs m c 0 = m ((c : Thread CmpIdeal.nD CmpIdeal.τ).loc CmpIdeal.main_arg4) := if_pos rfl
  have e_u2 : u2 m c 0 = m ((c : Thread CmpIdeal.nD CmpIdeal.τ).loc CmpIdeal.main_arg5) := if_pos rfl
  rw [← e_xs, ← e_ps, ← e_u1, ← e_bs, ← e_u2]
  funext j
  obtain ⟨b, n, h, d, rfl⟩ : ∃ (b : Fin 8) (n : Fin 511) (h : Fin 2) (d : Fin 64), j = ix4 b n h d := ⟨j 0, j 1, j 2, j 3, eq_ix4 j⟩
  exact (row_eq m c 0 b n h d).trans (K0_at m c b n h d).symm

/-- The reference's values are the kernel's. -/
theorem out_eq1 : RefCmpIdeal.Rows.OUT (m ((c : Thread CmpIdeal.nD CmpIdeal.τ).loc CmpIdeal.main_arg1)) (m ((c : Thread CmpIdeal.nD CmpIdeal.τ).loc CmpIdeal.main_arg6)) (m ((c : Thread CmpIdeal.nD CmpIdeal.τ).loc CmpIdeal.main_arg7)) (m ((c : Thread CmpIdeal.nD CmpIdeal.τ).loc CmpIdeal.main_arg8)) (m ((c : Thread CmpIdeal.nD CmpIdeal.τ).loc CmpIdeal.main_arg9)) = K1 m c := by
  have e_xs : xs m c 1 = m ((c : Thread CmpIdeal.nD CmpIdeal.τ).loc CmpIdeal.main_arg1) := if_neg (by decide)
  have e_ps : ps m c 1 = m ((c : Thread CmpIdeal.nD CmpIdeal.τ).loc CmpIdeal.main_arg6) := if_neg (by decide)
  have e_u1 : u1 m c 1 = m ((c : Thread CmpIdeal.nD CmpIdeal.τ).loc CmpIdeal.main_arg7) := if_neg (by decide)
  have e_bs : bs m c 1 = m ((c : Thread CmpIdeal.nD CmpIdeal.τ).loc CmpIdeal.main_arg8) := if_neg (by decide)
  have e_u2 : u2 m c 1 = m ((c : Thread CmpIdeal.nD CmpIdeal.τ).loc CmpIdeal.main_arg9) := if_neg (by decide)
  rw [← e_xs, ← e_ps, ← e_u1, ← e_bs, ← e_u2]
  funext j
  obtain ⟨b, n, h, d, rfl⟩ : ∃ (b : Fin 8) (n : Fin 511) (h : Fin 2) (d : Fin 64), j = ix4 b n h d := ⟨j 0, j 1, j 2, j 3, eq_ix4 j⟩
  exact (row_eq m c 1 b n h d).trans (K1_at m c b n h d).symm

/-- The two results are the same arrays, from launch memories that agree on the arguments. -/
theorem algebraic : Cert.algebraic_CmpIdeal_RefCmpIdeal := by
  pair_intro
  · run_from Cert.CmpIdeal.Value.run m g
  · run_from Cert.RefCmpIdeal.Value.run m' g'
    · obtain ⟨h0, h1, h2, h3, h4, h5, h6, h7, h8, h9⟩ := hagree c
      try rw [h0]
      have E := out_eq0 m c
      unfold RefCmpIdeal.Rows.OUT RefCmpIdeal.Rows.GATE RefCmpIdeal.Rows.HID RefCmpIdeal.Rows.FLAT RefCmpIdeal.Rows.BLK K0 at E
      exact E
    · obtain ⟨h0, h1, h2, h3, h4, h5, h6, h7, h8, h9⟩ := hagree c
      try rw [h1]
      have E := out_eq1 m c
      unfold RefCmpIdeal.Rows.OUT RefCmpIdeal.Rows.GATE RefCmpIdeal.Rows.HID RefCmpIdeal.Rows.FLAT RefCmpIdeal.Rows.BLK K1 at E
      exact E

/-- The reference's run leaves its arguments as they were. -/
theorem reference_frame : Cert.quiescent_RefCmpIdeal := by
  intro m g _
  exact (θ_run _ _ _).mono (fun r h => ⟨fun c => (h c).2.2, sem_eq_zero_of_no_sems (sig := Cert.RefCmpIdeal.sig) (by decide) _⟩)
    (Cert.RefCmpIdeal.Value.run m g)

end Cert.CmpClaim
end
-- ==== Proof.lean ====
module

public import proofs.«01_k».proof.Defs
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.RefPostIdeal
public import proofs.«01_k».proof.Proof.Gen.RefPostIdeal.Run
public import proofs.«01_k».proof.Proof.PostClaim
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.RefConvIdeal
public import proofs.«01_k».proof.Proof.Gen.RefConvIdeal.Run
public import proofs.«01_k».proof.Proof.ConvClaim
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.RefProjIdeal
public import proofs.«01_k».proof.Proof.Gen.RefProjIdeal.Run
public import proofs.«01_k».proof.Proof.ProjClaim
public import proofs.«01_k».proof.Proof.Gen.Cmp
public import proofs.«01_k».proof.Proof.Gen.Cmp.Skeleton
public import proofs.«01_k».proof.Proof.Gen.Cmp.Launch
public import proofs.«01_k».proof.Proof.Gen.Cmp.Points
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Points
public import proofs.«01_k».proof.Proof.Gen.CmpIdeal.Frame
public import proofs.«01_k».proof.Proof.Gen.RefCmpIdeal
public import proofs.«01_k».proof.Proof.Gen.RefCmpIdeal.Run
public import proofs.«01_k».proof.Proof.CmpClaim
public import Idealize.ShloMosaic.Adequacy
public import Idealize.ShloMosaic.Init

@[expose] public section

noncomputable section

namespace Cert.Proof

open Idealize.ShloMosaic Idealize.SL.Sem

/-- Everything that the statement claims. -/
theorem claim : Cert.Claim := ⟨Cert.Post.Gen.facts, Cert.PostIdeal.Gen.facts, Cert.RefPostIdeal.Gen.facts, Cert.Conv.Gen.facts, Cert.ConvIdeal.Gen.facts, Cert.RefConvIdeal.Gen.facts, Cert.Proj.Gen.facts, Cert.ProjIdeal.Gen.facts, Cert.RefProjIdeal.Gen.facts, Cert.Cmp.Gen.facts, Cert.CmpIdeal.Gen.facts, Cert.RefCmpIdeal.Gen.facts,
  fun m ρ _ => Cert.Post.Gen.frame m ρ, fun m ρ _ => Cert.PostIdeal.Gen.frame m ρ, Cert.PostClaim.reference_frame,
  fun m ρ _ => Cert.Conv.Gen.frame m ρ, fun m ρ _ => Cert.ConvIdeal.Gen.frame m ρ, Cert.ConvClaim.reference_frame,
  fun m ρ _ => Cert.Proj.Gen.frame m ρ, fun m ρ _ => Cert.ProjIdeal.Gen.frame m ρ, Cert.ProjClaim.reference_frame,
  fun m ρ _ => Cert.Cmp.Gen.frame m ρ, fun m ρ _ => Cert.CmpIdeal.Gen.frame m ρ, Cert.CmpClaim.reference_frame,
  trivial, Cert.PostClaim.algebraic,
  trivial, Cert.ConvClaim.algebraic,
  trivial, Cert.ProjClaim.algebraic,
  trivial, Cert.CmpClaim.algebraic⟩

end Cert.Proof

end
